-- ==== Defs.lean ====
def Pre_Kernel [hPre_segments : Cert.Pre_segments.Facts] (m : (ℓ : Loc Cert.Kernel.nD Cert.Kernel.τ Cert.Kernel.sig) → Buf (Elt Bits) ℓ) : Prop :=
  ∀ c : Dev Cert.Kernel.nD,
    (Cert.Pre_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_segments : Cert.Pre_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "sqrt_d" .f32 0x413504F3#32 ((Real.sqrt 128 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_segments : Cert.Pre_segments.Facts) (hPre_finite : Cert.Pre_finite.Facts),
    quiescent_Kernel (hKernel := hKernel) (hPre_segments := hPre_segments)
    ∧ quiescent_KernelIdeal (hKernelIdeal := hKernelIdeal) (hPre_segments := hPre_segments)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S100000x128 : Shape := ⟨2, ![100000, 128]⟩
abbrev S100000 : Shape := ⟨1, ![100000]⟩
abbrev S512x1 : Shape := ⟨2, ![512, 1]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : IVec S100000 32) (main_v13 : IVec S_ 1) (main_v15 : IVec S100000 1) (main_c_5 : IVec S_ 32) : IVec S_ 1 :=
  let main_v16 : IVec S100000 32 := broadcastInDim S100000 ![] bcast_S_S100000 main_c_5
  let main_v17 : IVec S100000 1 := cmpi .slt main_arg1 main_v16
  let main_v18 : IVec S100000 1 := andi main_v15 main_v17
  let main_c_6 : IVec S_ 1 := constantI S_ 1 1#1
  let main_v19 : IVec S_ 1 := (fun x v => Host.reduce IntOp.andi x v reducesTo_S100000_S_d0 h_S_) main_v18 main_c_6
  let main_v20 : IVec S_ 1 := andi main_v13 main_v19
  main_v20

def fn {F : FTy → Type} [FloatOps F] (main_arg0 : FVec F S100000x128 .f32) (main_arg1 : IVec S100000 32) (main_arg2 : FVec F S512x1 .f32) (main_arg3 : FVec F S128 .f32) (main_arg4 : FVec F S128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x1 .f32 := Host.absf main_arg5
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg1 main_v14
  let main_c_5 : IVec S_ 32 := constantI S_ 32 512#32
  fn_part1 (F := F) main_arg1 main_v13 main_v15 main_c_5
-- ==== Pre_segments.lean ====
abbrev S100000x128 : Shape := ⟨2, ![100000, 128]⟩
abbrev S100000 : Shape := ⟨1, ![100000]⟩
abbrev S512x1 : Shape := ⟨2, ![512, 1]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S512x1 .f32) (main_arg3 : FVec F S128 .f32) (main_arg4 : FVec F S128 .f32) (main_arg5 : FVec F S128x1 .f32) (main_arg6 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S100000 : Shape := ⟨1, ![100000]⟩
abbrev S512x1 : Shape := ⟨2, ![512, 1]⟩
abbrev S128 : Shape := ⟨1, ![128]⟩
abbrev S128x1 : Shape := ⟨2, ![128, 1]⟩
abbrev S1 : Shape := ⟨1, ![1]⟩
abbrev S1x128 : Shape := ⟨2, ![1, 128]⟩
abbrev S100352x1 : Shape := ⟨2, ![100352, 1]⟩
abbrev S2000x128 : Shape := ⟨2, ![2000, 128]⟩
abbrev S2000x1 : Shape := ⟨2, ![2000, 1]⟩
abbrev S1x1x128 : Shape := ⟨3, ![1, 1, 128]⟩
abbrev S1x1x1 : Shape := ⟨3, ![1, 1, 1]⟩
abbrev S2000 : Shape := ⟨1, ![2000]⟩
abbrev S_ : Shape := ⟨0, ![]⟩
abbrev S100352 : Shape := ⟨1, ![100352]⟩
abbrev S32x512 : Shape := ⟨2, ![32, 512]⟩
abbrev S3136 : Shape := ⟨1, ![3136]⟩
abbrev S528 : Shape := ⟨1, ![528]⟩
abbrev S16 : Shape := ⟨1, ![16]⟩
abbrev S512 : Shape := ⟨1, ![512]⟩
abbrev S1x512 : Shape := ⟨2, ![1, 512]⟩
abbrev S1x1 : Shape := ⟨2, ![1, 1]⟩

abbrev nBuf : Table → Nat
  | .hbm => 21
  | .local .tc .vmem => 12
  | .local .scVector .vmem => 4
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S512x1, .f32⟩
  | .hbm, ⟨3, _⟩ => ⟨S128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S100352x1, .f32⟩
  | .hbm, ⟨11, _⟩ => ⟨S_, .i32⟩
  | .hbm, ⟨12, _⟩ => ⟨S_, .i32⟩
  | .hbm, ⟨13, _⟩ => ⟨S100352, .i32⟩
  | .hbm, ⟨14, _⟩ => ⟨S100352, .f32⟩
  | .hbm, ⟨15, _⟩ => ⟨S32x512, .f32⟩
  | .hbm, ⟨16, _⟩ => ⟨S32x512, .f32⟩
  | .hbm, ⟨17, _⟩ => ⟨S1x1, .f32⟩
  | .hbm, ⟨18, _⟩ => ⟨S1x512, .f32⟩
  | .hbm, ⟨19, _⟩ => ⟨S1x512, .f32⟩
  | .hbm, ⟨20, _⟩ => ⟨S512x1, .f32⟩
  | .local .tc .vmem, ⟨0, _⟩ => ⟨S2000x128, .f32⟩
  | .local .tc .vmem, ⟨1, _⟩ => ⟨S2000x128, .f32⟩
  | .local .tc .vmem, ⟨2, _⟩ => ⟨S1x128, .f32⟩
  | .local .tc .vmem, ⟨3, _⟩ => ⟨S1x128, .f32⟩
  | .local .tc .vmem, ⟨4, _⟩ => ⟨S2000x1, .f32⟩
  | .local .tc .vmem, ⟨5, _⟩ => ⟨S2000x1, .f32⟩
  | .local .tc .vmem, ⟨6, _⟩ => ⟨S32x512, .f32⟩
  | .local .tc .vmem, ⟨7, _⟩ => ⟨S32x512, .f32⟩
  | .local .tc .vmem, ⟨8, _⟩ => ⟨S1x128, .f32⟩
  | .local .tc .vmem, ⟨9, _⟩ => ⟨S1x128, .f32⟩
  | .local .tc .vmem, ⟨10, _⟩ => ⟨S1x512, .f32⟩
  | .local .tc .vmem, ⟨11, _⟩ => ⟨S1x512, .f32⟩
  | .local .scVector .vmem, ⟨0, _⟩ => ⟨S3136, .f32⟩
  | .local .scVector .vmem, ⟨1, _⟩ => ⟨S3136, .i32⟩
  | .local .scVector .vmem, ⟨2, _⟩ => ⟨S528, .f32⟩
  | .local .scVector .vmem, ⟨3, _⟩ => ⟨S528, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v5_scv : Ref sig .scVector := ⟨.hbm, 14, rfl⟩
abbrev main_v4_scv : Ref sig .scVector := ⟨.hbm, 13, rfl⟩
abbrev main_v6_0_scv : Ref sig .scVector := ⟨.hbm, 15, rfl⟩
abbrev main_v6_1_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
@[reducible] def k1_t1_loop : Scf.Loop 32 :=
  let c0_i32_1 : BitVec 32 := 0#32
  let c33_i32 : BitVec 32 := 33#32
  let v5 : BitVec 32 := Scalar.addi c0_i32_1 c33_i32
  let c1_i32 : BitVec 32 := 1#32
  ⟨c0_i32_1, v5, c1_i32⟩
def k1_off2 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c16_i32 : BitVec 32 := 16#32
  let v7 : BitVec 32 := Scalar.muli arg10 c16_i32
  let v8 : Index := Scalar.indexCast v7
  ![v8.toNat]
@[reducible] def k1_t2_loop : Scf.Loop 32 :=
  let c0_i32_4 : BitVec 32 := 0#32
  let c196_i32 : BitVec 32 := 196#32
  let v6 : BitVec 32 := Scalar.addi c0_i32_4 c196_i32
  let c1_i32_5 : BitVec 32 := 1#32
  ⟨c0_i32_4, v6, c1_i32_5⟩
def k1_off3 (k1_t2 : Fin k1_t2_loop.trips) : Fin 1 → Nat :=
  let c0_i32_4 : BitVec 32 := 0#32
  let c1_i32_5 : BitVec 32 := 1#32
  let arg10 : BitVec 32 := Scf.iv c0_i32_4 c1_i32_5 k1_t2
  let c16_i32 : BitVec 32 := 16#32
  let v7 : BitVec 32 := Scalar.muli arg10 c16_i32
  let v8 : Index := Scalar.indexCast v7
  ![v8.toNat]

def k1_chk1 (v11 : IVec S16 32) : Prop :=
  (∀ a x, ((![v11] : Fin 1 → IVec S16 32) a x).toNat < S528.size a) ∧
  (∀ a x, ((![v11] : Fin 1 → IVec S16 32) a x).toNat < S528.size a)
theorem k1_idx1_inb : ∀ (v11 : IVec S16 32) (k1_hw1 : k1_chk1 v11), ∀ a x, ((![v11] : Fin 1 → IVec S16 32) a x).toNat < S528.size a := fun v11 k1_hw1 => k1_hw1.1
theorem k1_idx2_inb : ∀ (v11 : IVec S16 32) (k1_hw1 : k1_chk1 v11), ∀ a x, ((![v11] : Fin 1 → IVec S16 32) a x).toNat < S528.size a := fun v11 k1_hw1 => k1_hw1.2
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r2 : BitVec 32 := 0#32
  ![v1.toNat, 0]
abbrev grid2 : Pipeline.Grid := .none

abbrev stage2_0 : Fin 1 → Memref sig .tc .vmem S32x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "sqrt_d" => some ((Real.sqrt 128 : ℝ) : EReal)
  | _ => none
-- ==== ReferenceIdeal.lean ====
abbrev S100000x128 : Shape := ⟨2, ![100000, 128]⟩
abbrev S100000 : Shape := ⟨1, ![100000]⟩
abbrev S512x1 : Shape := ⟨2, ![512, 1]⟩
abbrev S128 : Shape := ⟨1, ![128]⟩
abbrev S128x1 : Shape := ⟨2, ![128, 1]⟩
abbrev S1 : Shape := ⟨1, ![1]⟩
abbrev S_ : Shape := ⟨0, ![]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S512x1, .f32⟩
  | .hbm, ⟨3, _⟩ => ⟨S128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S512x128, .f32⟩
  | .hbm, ⟨38, _⟩ => ⟨S100000x1, .i32⟩
  | .hbm, ⟨39, _⟩ => ⟨S512x128, .f32⟩
  | .hbm, ⟨40, _⟩ => ⟨S_, .f32⟩
  | .hbm, ⟨41, _⟩ => ⟨S100000, .f32⟩
  | .hbm, ⟨42, _⟩ => ⟨S_, .f32⟩
  | .hbm, ⟨43, _⟩ => ⟨S512, .f32⟩
  | .hbm, ⟨44, _⟩ => ⟨S100000x1, .i32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512x1, .f32⟩
  | .hbm, ⟨50, _⟩ => ⟨S512x128, .f32⟩
  | .hbm, ⟨51, _⟩ => ⟨S512x128, .f32⟩
  | .hbm, ⟨52, _⟩ => ⟨S512x1, .f32⟩
  | .hbm, ⟨53, _⟩ => ⟨S1x1, .f32⟩
  | .hbm, ⟨54, _⟩ => ⟨S512x1, .f32⟩
  | .hbm, ⟨55, _⟩ => ⟨S512x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Setup.lean ====
/-
  The program as the launch theorem of a SparseCore program sees it, and what is common to the modules of the run: the
  resource algebra (the handshakes' rounds, the rounds of the two TensorCore pipelines, the counters of the tiles'
  copies), the launch memory, and the rows that the 32 tiles deal among them.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the calls. -/
abbrev ΛP [FloatOps F] [Named F] : Labels := Pipeline.Sig Λ₀ (Fin 2) fun p => (pcfgs (F := F) p).Adm
/-- The SparseCore call. -/
abbrev K [FloatOps F] [Named F] : SparseCore.Cfg τ sig (ΛP (F := F)) 1 := sc (F := F)
/-- The body table below the SparseCore call. -/
abbrev D [FloatOps F] [Named F] : Defs nD τ sig (Elt F) (ΛP (F := F)) := Pipeline.defs pcfgs defs₀
/-- No loop needs a variant. -/
abbrev 𝒱₀ : Variants := Variants.none
/-- The same above the labels of the calls. -/
abbrev 𝒱 : Variants := 𝒱₀.lift
/-- The variant of a thread without loops of unknown length. -/
abbrev v₀ : 𝒱.V := Sum.inl none

/-- The side conditions of the SparseCore call. -/
theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- Ghost state of the handshakes. -/
abbrev UH : Type := URounds (GSem nD τ sig) ℕ
/-- Ghost state of the pipelined calls. -/
abbrev UP : Type := URounds (GSem nD τ sig) Unit
/-- Ghost state of the whole run. -/
abbrev UU : Type := UH × (UP × Counters)

/-- The handshakes' rounds, the left factor. -/
abbrev EH : Emb UH (MT nD τ sig (HIx 1) (Elt F) ℕ UU ℕ) := embL
/-- The pipelines' rounds, the middle factor. -/
def EP : Emb UP (MT nD τ sig (HIx 1) (Elt F) ℕ UU ℕ) := (Emb.inl : Emb UP (UP × Counters)).trans embR

/-- The pipelined calls' ghost state lies in the run's. -/
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays of the SparseCore call -/

/-- The row values, the padded segment words, the tiles' sums and counts, as locations of device `d`. -/
abbrev rLoc (d : Dev nD) : Loc nD τ sig := (SparseCore.T d).loc main_v5
/-- The array of padded words. -/
abbrev iLoc (d : Dev nD) : Loc nD τ sig := (SparseCore.T d).loc main_v4
/-- The array of sums. -/
abbrev sLoc (d : Dev nD) : Loc nD τ sig := (SparseCore.T d).loc main_v6_0
/-- The array of counts. -/
abbrev cLoc (d : Dev nD) : Loc nD τ sig := (SparseCore.T d).loc main_v6_1

/-- The elements of a vector of 100352 that belong to tile `n`. -/
def vecSet (n : ℕ) : Finset S100352.Idx := Finset.univ.filter fun j => (j 0).val / 3136 = n
/-- The elements of a 32x512 array in row `n`. -/
def rowSet (n : ℕ) : Finset S32x512.Idx := Finset.univ.filter fun j => (j 0).val = n

/-- An element of a vector belongs to the block that its index names. -/
theorem mem_vecSet {n : ℕ} {j : S100352.Idx} : j ∈ vecSet n ↔ (j 0).val / 3136 = n := by simp [vecSet]
/-- An element of a table belongs to its row. -/
theorem mem_rowSet {n : ℕ} {j : S32x512.Idx} : j ∈ rowSet n ↔ (j 0).val = n := by simp [rowSet]

end Cert.Proof

end
-- ==== Proof.Tile.lean ====
/-
  What one tile of the SparseCore call does. The tile of subcore `L 1` of SparseCore `L 0` takes the vectors' elements of its
  block, zeroes its two tables of 528 bins, adds sixteen row values and sixteen ones a trip into the bins that the
  segment words name, and copies the first 512 bins of each table to its row of the sums and of the counts.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The tile's memrefs, in the program's spelling -/

/-- The row values. -/
abbrev rV : Memref sig .scVector .hbm S100352 .f32 := Memref.whole main_v5_scv
/-- The padded words. -/
abbrev iV : Memref sig .scVector .hbm S100352 .i32 := Memref.whole main_v4_scv
/-- The array of sums. -/
abbrev sV : Memref sig .scVector .hbm S32x512 .f32 := Memref.whole main_v6_0_scv
/-- The array of counts. -/
abbrev cV' : Memref sig .scVector .hbm S32x512 .f32 := Memref.whole main_v6_1_scv
/-- The tile's block of row values. -/
abbrev tR : Memref sig .scVector .vmem S3136 .f32 := Memref.whole cc1_scratch0
/-- The tile's block of words. -/
abbrev tI : Memref sig .scVector .vmem S3136 .i32 := Memref.whole cc1_scratch1
/-- The tile's table of sums. -/
abbrev tS : Memref sig .scVector .vmem S528 .f32 := Memref.whole cc1_scratch2
/-- The tile's table of counts. -/
abbrev tC : Memref sig .scVector .vmem S528 .f32 := Memref.whole cc1_scratch3

/-- The block of row values that the tile copies in. -/
abbrev rSl (L : grid1.Coords) : Memref sig .scVector .hbm S3136 .f32 := rV.slice (Rect.unit (s := S100352) (k1_off1 L) S3136.size (k1_off1_inb L)) (fun _ => rfl)
/-- The block of words that it copies in. -/
abbrev iSl (L : grid1.Coords) : Memref sig .scVector .hbm S3136 .i32 := iV.slice (Rect.unit (s := S100352) (k1_off1 L) S3136.size (k1_off1_inb L)) (fun _ => rfl)
/-- The row of sums that it copies out to. -/
abbrev sRow (L : grid1.Coords) : Memref sig .scVector .hbm S512 .f32 := (sV.slice (Rect.unit (s := S32x512) (k1_off4 L) S1x512.size (k1_off4_inb L)) (fun _ => rfl)).squeeze S512 squeezes_S1x512_S512
/-- The row of counts that it copies out to. -/
abbrev cRow (L : grid1.Coords) : Memref sig .scVector .hbm S512 .f32 := (cV'.slice (Rect.unit (s := S32x512) (k1_off4 L) S1x512.size (k1_off4_inb L)) (fun _ => rfl)).squeeze S512 squeezes_S1x512_S512
/-- The first 512 bins of its table of sums. -/
abbrev tSHead : Memref sig .scVector .vmem S512 .f32 := tS.slice (Rect.unit (s := S528) ![0] S512.size inb_S528_S512_0) (fun _ => rfl)
/-- The first 512 bins of its table of counts. -/
abbrev tCHead : Memref sig .scVector .vmem S512 .f32 := tC.slice (Rect.unit (s := S528) ![0] S512.size inb_S528_S512_0) (fun _ => rfl)

/-! ## What the tables hold -/

/-- The sixteen row values of trip `t`. -/
def rvVec (f : Vec F S3136 .f32) (t : Fin k1_t2_loop.trips) : Vec F S16 .f32 :=
  tR.view.readAt (Elt F) (Rect.unit (s := S3136) (k1_off3 t) S16.size (k1_off3_inb t)).toLoadRect f
/-- The sixteen segment words of trip `t`. -/
def ixVec (f : Vec F S3136 .i32) (t : Fin k1_t2_loop.trips) : Vec F S16 .i32 :=
  tI.view.readAt (Elt F) (Rect.unit (s := S3136) (k1_off3 t) S16.size (k1_off3_inb t)).toLoadRect f

/-- A table of zeros. -/
def zeros : Vec F S528 .f32 := fun _ => FloatOps.ofBits .f32 0x00000000#32

/-- The table of sums after `n` trips. -/
def accS (fr : Vec F S3136 .f32) (fi : Vec F S3136 .i32) (h : ∀ t, k1_chk1 (ixVec (F := F) fi t)) : ℕ → Vec F S528 .f32
  | 0 => zeros
  | n + 1 => if hn : n < k1_t2_loop.trips then
      storeIdx (accS fr fi h n) ![ixVec (F := F) fi ⟨n, hn⟩] (rvVec fr ⟨n, hn⟩) (fun _ => 1#1) true (k1_idx1_inb _ (h ⟨n, hn⟩))
    else accS fr fi h n

/-- The table of counts after `n` trips. -/
def accC (fi : Vec F S3136 .i32) (h : ∀ t, k1_chk1 (ixVec (F := F) fi t)) : ℕ → Vec F S528 .f32
  | 0 => zeros
  | n + 1 => if hn : n < k1_t2_loop.trips then
      storeIdx (accC fi h n) ![ixVec (F := F) fi ⟨n, hn⟩] (k1_pay2 (F := F)) (fun _ => 1#1) true (k1_idx2_inb _ (h ⟨n, hn⟩))
    else accC fi h n

/-- The vector that clears a table holds zeros. -/
theorem k1_pay1_eq : (k1_pay1 (F := F)) = fun _ => FloatOps.ofBits .f32 0x00000000#32 := rfl

/-! ## The tile's thread, its buffers and its semaphores -/

section Thread

variable (d : Dev nD) (L : grid1.Coords)

/-- The tile's SparseCore. -/
abbrev cN (L : grid1.Coords) : Fin τ.nSC := (L 0).castLE hcore1
/-- The tile's place in its SparseCore. -/
abbrev jN (L : grid1.Coords) : Fin τ.nSub := (L 1).castLE hsub1
/-- The tile's number: it works on block `tileNo` of the vectors and on row `tileNo` of the tables. -/
def tileNo (L : grid1.Coords) : ℕ := 2 * (L 1).val + (L 0).val

/-- The tile's thread. -/
abbrev thr : Thread nD τ := V d (cN L) (jN L)
/-- The semaphore of the first copy in. -/
abbrev cell0 : GSem nD τ sig := (thr d L, .dma cc1_scoped0.sem)
/-- The semaphore of the second copy in. -/
abbrev cell1 : GSem nD τ sig := (thr d L, .dma cc1_scoped1.sem)
/-- The semaphore of the first copy out. -/
abbrev cell2 : GSem nD τ sig := (thr d L, .dma cc1_scoped2.sem)
/-- The semaphore of the second copy out. -/
abbrev cell3 : GSem nD τ sig := (thr d L, .dma cc1_scoped3.sem)

/-- The rectangle of a tile's block of the vectors. -/
theorem rect1_set : (Rect.unit (s := S100352) (k1_off1 L) S3136.size (k1_off1_inb L)).set = vecSet (tileNo L) := by
  ext j
  rw [Rect.mem_set_unit, mem_vecSet]
  unfold tileNo
  have h0 : (L 0).val < 2 := (L 0).isLt
  have h1 : (L 1).val < 16 := (L 1).isLt
  constructor
  · intro h
    have := h 0
    rw [k1_off1_eq] at this
    simp at this
    omega
  · intro h a
    obtain rfl : a = 0 := Subsingleton.elim _ _
    rw [k1_off1_eq]
    simp
    omega

/-- The rectangle of a tile's row of the sums and of the counts. -/
theorem rect4_set : (Rect.unit (s := S32x512) (k1_off4 L) S1x512.size (k1_off4_inb L)).set = rowSet (tileNo L) := by
  ext j
  rw [Rect.mem_set_unit, mem_rowSet]
  unfold tileNo
  constructor
  · intro h
    have := h 0
    rw [k1_off4_eq] at this
    simp at this
    omega
  · intro h a
    rw [k1_off4_eq]
    have h1 : (j 1).val < 512 := (j 1).isLt
    match a with
    | 0 => simp; omega
    | 1 => simp; exact h1

/-- The elements of the vectors that a tile's copy reads are those of its block. -/
theorem set_rSl : (rSl L).view.set = vecSet (tileNo L) :=
  (View.set_slice_whole main_v5_scv (Rect.unit (s := S100352) (k1_off1 L) S3136.size (k1_off1_inb L))).trans (rect1_set L)
/-- So are those of the words. -/
theorem set_iSl : (iSl L).view.set = vecSet (tileNo L) :=
  (View.set_slice_whole main_v4_scv (Rect.unit (s := S100352) (k1_off1 L) S3136.size (k1_off1_inb L))).trans (rect1_set L)

/-- The elements of the sums that a tile's copy writes are those of its row. -/
theorem set_sRow : (sRow L).view.set = rowSet (tileNo L) :=
  (View.set_reshape (v := (View.whole main_v6_0_scv).slice (Rect.unit (s := S32x512) (k1_off4 L) S1x512.size (k1_off4_inb L))) squeezes_S1x512_S512.numel_eq).trans
    ((View.set_slice_whole main_v6_0_scv (Rect.unit (s := S32x512) (k1_off4 L) S1x512.size (k1_off4_inb L))).trans (rect4_set L))
/-- So are those of the counts. -/
theorem set_cRow : (cRow L).view.set = rowSet (tileNo L) :=
  (View.set_reshape (v := (View.whole main_v6_1_scv).slice (Rect.unit (s := S32x512) (k1_off4 L) S1x512.size (k1_off4_inb L))) squeezes_S1x512_S512.numel_eq).trans
    ((View.set_slice_whole main_v6_1_scv (Rect.unit (s := S32x512) (k1_off4 L) S1x512.size (k1_off4_inb L))).trans (rect4_set L))

/-- The tile's four copy semaphores are among its own. -/
theorem ownSems0_thr :
    (ownSems0 (thr d L) : sProp 𝕄)
      = iprop(semVal (cell0 d L) 0 ∗ semVal (cell1 d L) 0 ∗ semVal (cell2 d L) 0 ∗ semVal (cell3 d L) 0
          ∗ bigSep (((((ownCells (thr d L)).erase (cell0 d L)).erase (cell1 d L)).erase (cell2 d L)).erase (cell3 d L)) fun g => semVal g 0) := by
  unfold SparseCore.Cfg.ownSems0
  have own : ∀ s : DmaSem sig, (SemLoc.dma s : SemLoc sig).isScoped .scVector = true → (thr d L, SemLoc.dma s) ∈ ownCells (thr d L) := fun s hs =>
    (mem_ownCells (g := (thr d L, SemLoc.dma s))).mpr ⟨rfl, hs⟩
  have h10 : cell1 d L ≠ cell0 d L := by simp; decide
  have h20 : cell2 d L ≠ cell0 d L := by simp; decide
  have h21 : cell2 d L ≠ cell1 d L := by simp; decide
  have h30 : cell3 d L ≠ cell0 d L := by simp; decide
  have h31 : cell3 d L ≠ cell1 d L := by simp; decide
  have h32 : cell3 d L ≠ cell2 d L := by simp; decide
  rw [SparseCore.bigSep_erase' (own cc1_scoped0.sem (by decide)),
    SparseCore.bigSep_erase' (Finset.mem_erase.mpr ⟨h10, own cc1_scoped1.sem (by decide)⟩),
    SparseCore.bigSep_erase' (Finset.mem_erase.mpr ⟨h21, Finset.mem_erase.mpr ⟨h20, own cc1_scoped2.sem (by decide)⟩⟩),
    SparseCore.bigSep_erase' (Finset.mem_erase.mpr ⟨h32, Finset.mem_erase.mpr ⟨h31, Finset.mem_erase.mpr ⟨h30, own cc1_scoped3.sem (by decide)⟩⟩⟩)]

/-- The buffers of the tile other than its four scratch buffers. -/
def restRefs : Finset (DevRef τ sig) :=
  ((((ownRefs (τ := τ) (.scVector (cN L) (jN L))).erase ((Proc.scVector (cN L) (jN L)).devRef cc1_scratch0)).erase
    ((Proc.scVector (cN L) (jN L)).devRef cc1_scratch1)).erase ((Proc.scVector (cN L) (jN L)).devRef cc1_scratch2)).erase
    ((Proc.scVector (cN L) (jN L)).devRef cc1_scratch3)

/-- The tile's four scratch buffers are among its own. -/
theorem ownBufs_thr :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (restRefs L) fun b => iprop(∃ f, ((d, b) : Loc nD τ sig) ↦{fullShare} f)) := by
  unfold SparseCore.Cfg.ownBufs restRefs
  have own0 := SparseCore.Cfg.mem_ownRefs_of_owner (p := Proc.scVector (cN L) (jN L)) (b := (Proc.scVector (cN L) (jN L)).devRef cc1_scratch0) rfl
  have own1 := SparseCore.Cfg.mem_ownRefs_of_owner (p := Proc.scVector (cN L) (jN L)) (b := (Proc.scVector (cN L) (jN L)).devRef cc1_scratch1) rfl
  have own2 := SparseCore.Cfg.mem_ownRefs_of_owner (p := Proc.scVector (cN L) (jN L)) (b := (Proc.scVector (cN L) (jN L)).devRef cc1_scratch2) rfl
  have own3 := SparseCore.Cfg.mem_ownRefs_of_owner (p := Proc.scVector (cN L) (jN L)) (b := (Proc.scVector (cN L) (jN L)).devRef cc1_scratch3) rfl
  have ne : ∀ a b : Ref sig .scVector, a ≠ b → (Proc.scVector (cN L) (jN L)).devRef a ≠ (Proc.scVector (cN L) (jN L)).devRef b :=
    fun a b h e => h (Proc.devRef_injective _ e)
  refine (SparseCore.bigSep_erase' own0).trans ?_
  rw [SparseCore.bigSep_erase' (Finset.mem_erase.mpr ⟨ne cc1_scratch1 cc1_scratch0 (by decide), own1⟩),
    SparseCore.bigSep_erase' (Finset.mem_erase.mpr ⟨ne cc1_scratch2 cc1_scratch1 (by decide),
      Finset.mem_erase.mpr ⟨ne cc1_scratch2 cc1_scratch0 (by decide), own2⟩⟩),
    SparseCore.bigSep_erase' (Finset.mem_erase.mpr ⟨ne cc1_scratch3 cc1_scratch2 (by decide), Finset.mem_erase.mpr ⟨ne cc1_scratch3 cc1_scratch1 (by decide),
      Finset.mem_erase.mpr ⟨ne cc1_scratch3 cc1_scratch0 (by decide), own3⟩⟩⟩)]

end Thread

/-! ## The two loops -/

/-- The first loop has 33 trips. -/
theorem trips1 : k1_t1_loop.trips = 33 := by decide +kernel
/-- The second loop has 196 trips. -/
theorem trips2 : k1_t2_loop.trips = 196 := by decide +kernel

/-- The first `16 * n` bins of the table are zero. -/
def ZeroTo (n : ℕ) (f : Vec F S528 .f32) : Prop := ∀ j, (j 0).val < 16 * n → f j = FloatOps.ofBits .f32 0x00000000#32

/-- After all trips the table is zero. -/
theorem ZeroTo.all {f : Vec F S528 .f32} (h : ZeroTo 33 f) : f = zeros :=
  funext fun j => h j (by have : (j 0).val < 528 := (j 0).isLt; omega)

/-- A trip's store of zeros reaches sixteen bins further. -/
theorem ZeroTo.step (t : Fin k1_t1_loop.trips) {f g : Vec F S528 .f32} (h : ZeroTo t.val f)
    (hin : ∀ x : S16.Idx, g ((Rect.unit (s := S528) (k1_off2 t) S16.size (k1_off2_inb t)).emb x) = FloatOps.ofBits .f32 0x00000000#32)
    (hout : ∀ j, j ∉ (Rect.unit (s := S528) (k1_off2 t) S16.size (k1_off2_inb t)).set → g j = f j) : ZeroTo (t.val + 1) g := by
  intro j hj
  by_cases hm : j ∈ (Rect.unit (s := S528) (k1_off2 t) S16.size (k1_off2_inb t)).set
  · rw [Rect.mem_set_unit] at hm
    have h0 := hm 0
    have e : (Rect.unit (s := S528) (k1_off2 t) S16.size (k1_off2_inb t)).emb (fun a => ⟨(j 0).val - k1_off2 t 0, by
        obtain rfl : a = 0 := Subsingleton.elim _ _
        show (j 0).val - k1_off2 t 0 < 16
        simp at h0; omega⟩ : S16.Idx) = j := by
      funext a; apply Fin.ext
      obtain rfl : a = 0 := Subsingleton.elim _ _
      show k1_off2 t 0 + 1 * ((j 0).val - k1_off2 t 0) = (j 0).val
      omega
    rw [← e]
    exact hin _
  · rw [hout j hm]
    refine h j ?_
    rw [Rect.mem_set_unit] at hm
    by_contra hlt
    refine hm fun a => ?_
    obtain rfl : a = 0 := Subsingleton.elim _ _
    rw [k1_off2_eq]
    simp
    omega

section Loops

variable (d : Dev nD) (L : grid1.Coords)

/-- The tables as a store's rectangle addresses them. -/
theorem pts_tS (r : Rect S528) (f : Vec F S528 .f32) :
    (tS.view.loc (thr d L) ↦{fullShare} f : sProp 𝕄) = ((tS.access r).loc (thr d L) ↦{fullShare} f) := rfl
/-- The same of the table of counts. -/
theorem pts_tC (r : Rect S528) (f : Vec F S528 .f32) :
    (tC.view.loc (thr d L) ↦{fullShare} f : sProp 𝕄) = ((tC.access r).loc (thr d L) ↦{fullShare} f) := rfl

/-- What a trip of the first loop keeps: both tables held, their first bins zero. -/
def invZ (n : Nat) (_ : Unit) : sProp 𝕄 :=
  iprop((∃ f : Vec F S528 .f32, ⌜ZeroTo n f⌝ ∗ (tS.view.loc (thr d L) ↦{fullShare} f))
    ∗ (∃ f : Vec F S528 .f32, ⌜ZeroTo n f⌝ ∗ (tC.view.loc (thr d L) ↦{fullShare} f)))

/-- A trip of the first loop clears sixteen more bins of both tables. -/
theorem tripZ (t : Fin k1_t1_loop.trips) (u : Unit) :
    invZ (F := F) d L t.val u ⊢ wp frame (wpE (defs₀ (F := F)) 𝒱₀ (thr d L) none) Set.univ
      (k1_t1_body L rV (Memref.isWhole_whole _) iV (Memref.isWhole_whole _) sV (Memref.isWhole_whole _) cV' (Memref.isWhole_whole _)
        tR (Memref.isWhole_whole _) tI (Memref.isWhole_whole _) tS (Memref.isWhole_whole _) tC (Memref.isWhole_whole _)
        cc1_scoped0 cc1_scoped1 cc1_scoped2 cc1_scoped3 t u) (invZ d L (t.val + 1)) := by
  unfold k1_t1_body
  simp only [Prog.lift, Prog.bind_op, Prog.bind_ret, Prog.pure_eq_ret]
  unfold invZ
  iintro ⟨⟨%f, %hf, Hs⟩, ⟨%g, %hg, Hc⟩⟩
  iapply (wp_load 𝒱₀ (thr d L) none Set.univ (m := tS) (S := Finset.univ) (Finset.subset_univ _)) $$ Hs; iintro Hs
  ihave Hs' := (Entails.of_eq (pts_tS (F := F) d L (Rect.unit (s := S528) (k1_off2 t) S16.size (k1_off2_inb t)) _)) $$ Hs
  iapply (wp_store 𝒱₀ (thr d L) none Set.univ (m := tS) (r := Rect.unit (s := S528) (k1_off2 t) S16.size (k1_off2_inb t)) (Mk := Finset.univ) (S := Finset.univ) (Finset.subset_univ _)) $$ Hs'; iintro Hs
  iapply (wp_load 𝒱₀ (thr d L) none Set.univ (m := tC) (S := Finset.univ) (Finset.subset_univ _)) $$ Hc; iintro Hc
  ihave Hc' := (Entails.of_eq (pts_tC (F := F) d L (Rect.unit (s := S528) (k1_off2 t) S16.size (k1_off2_inb t)) _)) $$ Hc
  iapply (wp_store 𝒱₀ (thr d L) none Set.univ (m := tC) (r := Rect.unit (s := S528) (k1_off2 t) S16.size (k1_off2_inb t)) (Mk := Finset.univ) (S := Finset.univ) (Finset.subset_univ _)) $$ Hc'; iintro Hc
  rw [wp_ret]; imodintro
  isplitl [Hs]
  · iexists _; isplitr
    rotate_left
    · iexact Hs
    · ipureintro
      refine ZeroTo.step t hf (fun x => ?_) (fun j hj => ?_)
      · exact View.write_emb_of_mem _ _ (Finset.mem_univ x)
      · exact View.write_of_not_mem _ _ _ (by rw [View.setOn_univ]; exact fun h => hj (by rwa [← View.set_slice_whole cc1_scratch2 (Rect.unit (s := S528) (k1_off2 t) S16.size (k1_off2_inb t))]))
  · iexists _; isplitr
    rotate_left
    · iexact Hc
    · ipureintro
      refine ZeroTo.step t hg (fun x => ?_) (fun j hj => ?_)
      · exact View.write_emb_of_mem _ _ (Finset.mem_univ x)
      · exact View.write_of_not_mem _ _ _ (by rw [View.setOn_univ]; exact fun h => hj (by rwa [← View.set_slice_whole cc1_scratch3 (Rect.unit (s := S528) (k1_off2 t) S16.size (k1_off2_inb t))]))

variable (fr : Vec F S3136 .f32) (fi : Vec F S3136 .i32) (h : ∀ t, k1_chk1 (ixVec (F := F) fi t))

/-- What a trip of the second loop keeps: the two blocks as they came, the tables after `n` trips. -/
def invA (n : Nat) (_ : Unit) : sProp 𝕄 :=
  iprop((tR.view.loc (thr d L) ↦{fullShare} fr) ∗ (tI.view.loc (thr d L) ↦{fullShare} fi)
    ∗ (tS.view.loc (thr d L) ↦{fullShare} accS fr fi h n) ∗ (tC.view.loc (thr d L) ↦{fullShare} accC fi h n))

/-- The table of sums after one more trip. -/
theorem accS_succ (t : Fin k1_t2_loop.trips) :
    accS fr fi h (t.val + 1) = storeIdx (accS fr fi h t.val) ![ixVec (F := F) fi t] (rvVec fr t) (fun _ => 1#1) true (k1_idx1_inb _ (h t)) :=
  dif_pos t.isLt
/-- The table of counts after one more trip. -/
theorem accC_succ (t : Fin k1_t2_loop.trips) :
    accC fi h (t.val + 1) = storeIdx (accC fi h t.val) ![ixVec (F := F) fi t] (k1_pay2 (F := F)) (fun _ => 1#1) true (k1_idx2_inb _ (h t)) :=
  dif_pos t.isLt

/-- Writing all of the table of sums leaves what is written. -/
theorem access_write_tS (f w : Vec F S528 .f32) : (tS.access (.whole S528)).write (Elt F) f w Finset.univ = w := by
  funext j
  have := View.write_emb_of_mem (v := tS.access (.whole S528)) (Val := Elt F) f w (Finset.mem_univ j)
  rwa [show (tS.access (.whole S528)).emb j = j from Rect.emb_whole_apply S528 j] at this
/-- Reading all of the table of sums gives its contents. -/
theorem access_read_tS (f : Vec F S528 .f32) : (tS.access (.whole S528)).read (Elt F) f = f := by
  funext j
  exact congrArg f (Rect.emb_whole_apply S528 j)
/-- Writing all of the table of counts leaves what is written. -/
theorem access_write_tC (f w : Vec F S528 .f32) : (tC.access (.whole S528)).write (Elt F) f w Finset.univ = w := by
  funext j
  have := View.write_emb_of_mem (v := tC.access (.whole S528)) (Val := Elt F) f w (Finset.mem_univ j)
  rwa [show (tC.access (.whole S528)).emb j = j from Rect.emb_whole_apply S528 j] at this
/-- Reading all of the table of counts gives its contents. -/
theorem access_read_tC (f : Vec F S528 .f32) : (tC.access (.whole S528)).read (Elt F) f = f := by
  funext j
  exact congrArg f (Rect.emb_whole_apply S528 j)
/-- The whole table of sums is every bin. -/
theorem access_set_tS : (tS.access (.whole S528)).set = Finset.univ :=
  (View.set_slice_whole cc1_scratch2 (Rect.whole S528)).trans (Rect.set_whole S528)
/-- The whole table of counts is every bin. -/
theorem access_set_tC : (tC.access (.whole S528)).set = Finset.univ :=
  (View.set_slice_whole cc1_scratch3 (Rect.whole S528)).trans (Rect.set_whole S528)

/-- A table after a scatter into it. -/
theorem pts_scatS (f : Vec F S528 .f32) (idxs : Fin 1 → IVec S16 32) (v : Vec F S16 .f32) (hh : ∀ a x, (idxs a x).toNat < S528.size a) :
    ((tS.access (.whole S528)).loc (thr d L) ↦[(tS.access (.whole S528)).set]{fullShare}
        ((tS.access (.whole S528)).write (Elt F) f (storeIdx ((tS.access (.whole S528)).read (Elt F) f) idxs v (fun _ => 1#1) true hh) Finset.univ) : sProp 𝕄)
      = (tS.view.loc (thr d L) ↦{fullShare} storeIdx f idxs v (fun _ => 1#1) true hh) := by
  rw [access_read_tS, access_write_tS, access_set_tS]
/-- The same of the table of counts. -/
theorem pts_scatC (f : Vec F S528 .f32) (idxs : Fin 1 → IVec S16 32) (v : Vec F S16 .f32) (hh : ∀ a x, (idxs a x).toNat < S528.size a) :
    ((tC.access (.whole S528)).loc (thr d L) ↦[(tC.access (.whole S528)).set]{fullShare}
        ((tC.access (.whole S528)).write (Elt F) f (storeIdx ((tC.access (.whole S528)).read (Elt F) f) idxs v (fun _ => 1#1) true hh) Finset.univ) : sProp 𝕄)
      = (tC.view.loc (thr d L) ↦{fullShare} storeIdx f idxs v (fun _ => 1#1) true hh) := by
  rw [access_read_tC, access_write_tC, access_set_tC]

/-- A trip of the second loop adds sixteen row values and sixteen ones. -/
theorem tripA (t : Fin k1_t2_loop.trips) (u : Unit) :
    invA d L fr fi h t.val u ⊢ wp frame (wpE (defs₀ (F := F)) 𝒱₀ (thr d L) none) Set.univ
      (k1_t2_body L rV (Memref.isWhole_whole _) iV (Memref.isWhole_whole _) sV (Memref.isWhole_whole _) cV' (Memref.isWhole_whole _)
        tR (Memref.isWhole_whole _) tI (Memref.isWhole_whole _) tS (Memref.isWhole_whole _) tC (Memref.isWhole_whole _)
        cc1_scoped0 cc1_scoped1 cc1_scoped2 cc1_scoped3 t u) (invA d L fr fi h (t.val + 1)) := by
  unfold k1_t2_body
  simp only [Prog.lift, Prog.bind_op, Prog.bind_ret, Prog.pure_eq_ret]
  unfold invA
  iintro ⟨Hr, Hi, Hs, Hc⟩
  iapply (wp_load 𝒱₀ (thr d L) none Set.univ (m := tR) (S := Finset.univ) (Finset.subset_univ _)) $$ Hr; iintro Hr
  iapply (wp_load 𝒱₀ (thr d L) none Set.univ (m := tI) (S := Finset.univ) (Finset.subset_univ _)) $$ Hi; iintro Hi
  iapply (wp_assume 𝒱₀ (thr d L) none Set.univ (h t))
  ihave Hs' := (Entails.of_eq (congrArg (fun S => (tS.view.loc (thr d L) ↦[S]{fullShare} accS fr fi h t.val : sProp 𝕄)) access_set_tS.symm)) $$ Hs
  iapply (SparseCore.wp_vectorStoreIdx 𝒱₀ (thr d L) none Set.univ (base := tS)) $$ Hs'; iintro Hs
  ihave Hc' := (Entails.of_eq (congrArg (fun S => (tC.view.loc (thr d L) ↦[S]{fullShare} accC fi h t.val : sProp 𝕄)) access_set_tC.symm)) $$ Hc
  iapply (SparseCore.wp_vectorStoreIdx 𝒱₀ (thr d L) none Set.univ (base := tC)) $$ Hc'; iintro Hc
  rw [wp_ret]; imodintro
  isplitl [Hr]; · iexact Hr
  isplitl [Hi]; · iexact Hi
  isplitl [Hs]
  · rw [accS_succ]
    ihave Hs2 := (Entails.of_eq (pts_scatS (F := F) d L _ _ _ _)) $$ Hs
    iexact Hs2
  · rw [accC_succ]
    ihave Hc2 := (Entails.of_eq (pts_scatC (F := F) d L _ _ _ _)) $$ Hc
    iexact Hc2

end Loops

end Cert.Proof

end
-- ==== Proof.TileBody.lean ====
/-
  The whole run of one tile: its block of the row values and of the segment words copied in, the two loops, the first 512 bins of
  both tables copied out. The rows it leaves are stated as parts of the arrays `sumsOf` and `cntsOf`.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The values -/

/-- A tile's block of the row values and of the segment words. -/
def tileR (L : grid1.Coords) (R : Vec F S100352 .f32) : Vec F S3136 .f32 := (rSl L).view.read (Elt F) R
/-- A tile's block of the segment words. -/
def tileI (L : grid1.Coords) (I : Vec F S100352 .i32) : Vec F S3136 .i32 := (iSl L).view.read (Elt F) I

/-- Every segment word names a bin. -/
def InBins (I : IVec S100352 32) : Prop := ∀ j, (I j).toNat < 528

/-- Then every trip of every tile passes its check. -/
theorem chk_of_inBins {I : Vec F S100352 .i32} (hI : InBins I) (L : grid1.Coords) (t : Fin k1_t2_loop.trips) :
    k1_chk1 (ixVec (F := F) (tileI (F := F) L I) t) := by
  have key : ∀ (a : Fin 1) (x : S16.Idx), ((![ixVec (F := F) (tileI (F := F) L I) t] : Fin 1 → IVec S16 32) a x).toNat < S528.size a := by
    intro a x
    obtain rfl : a = 0 := Subsingleton.elim _ _
    exact hI _
  exact ⟨key, key⟩

/-- The coordinates of tile number `n`. -/
def coordsOf (n : Fin 32) : grid1.Coords := fun
  | 0 => (⟨n.val % 2, Nat.mod_lt _ (by decide)⟩ : Fin 2)
  | 1 => (⟨n.val / 2, by omega⟩ : Fin 16)
  | ⟨_ + 2, h⟩ => absurd h (Nat.not_lt.2 (Nat.le_add_left _ _))

/-- There are 32 tiles. -/
theorem tileNo_lt (L : grid1.Coords) : tileNo L < 32 := by
  have h0 : (L 0).val < 2 := (L 0).isLt
  have h1 : (L 1).val < 16 := (L 1).isLt
  unfold tileNo; omega

/-- The coordinates of a tile's number are the tile's. -/
theorem coordsOf_tileNo (L : grid1.Coords) : coordsOf ⟨tileNo L, tileNo_lt L⟩ = L := by
  have h0 : (L 0).val < 2 := (L 0).isLt
  funext a
  match a with
  | 0 => apply Fin.ext; show tileNo L % 2 = (L 0).val; unfold tileNo; omega
  | 1 => apply Fin.ext; show tileNo L / 2 = (L 1).val; unfold tileNo; omega

/-- The bin of a table that column `j 1` of a row holds. -/
def binOf (j : S32x512.Idx) : S528.Idx := fun a => ⟨(j 1).val, by
  obtain rfl : a = 0 := Subsingleton.elim _ _
  exact lt_trans (show (j 1).val < 512 from (j 1).isLt) (show 512 < 528 by decide)⟩

/-- The array of sums that the tiles leave: row `n` is the table of tile `n`. -/
def sumsOf (R : Vec F S100352 .f32) (I : Vec F S100352 .i32) (hI : InBins I) : Vec F S32x512 .f32 := fun j =>
  accS (tileR (coordsOf (j 0)) R) (tileI (F := F) (coordsOf (j 0)) I) (chk_of_inBins hI (coordsOf (j 0))) 196 (binOf j)

/-- The array of counts that the tiles leave. -/
def cntsOf (I : Vec F S100352 .i32) (hI : InBins I) : Vec F S32x512 .f32 := fun j =>
  accC (tileI (F := F) (coordsOf (j 0)) I) (chk_of_inBins hI (coordsOf (j 0))) 196 (binOf j)

section Body

variable (d : Dev nD) (L : grid1.Coords)
variable (R : Vec F S100352 .f32) (I : Vec F S100352 .i32) (hI : InBins I) (s0 c0 : Vec F S32x512 .f32)

/-- An element of a tile's row, in the whole array. -/
theorem rect4_emb (x : S512.Idx) (h : S512.numel = S1x512.numel) :
    (Rect.unit (s := S32x512) (k1_off4 L) S1x512.size (k1_off4_inb L)).emb (Shape.reshapeEquiv (s := S1x512) (s' := S512) h x)
      = fun | 0 => ⟨tileNo L, tileNo_lt L⟩ | 1 => ⟨(x 0).val, (x 0).isLt⟩ := by
  rw [show Shape.reshapeEquiv (s := S1x512) (s' := S512) h x = _ from Shape.reshapeEquiv_cons_one h x]
  funext a
  apply Fin.ext
  match a with
  | 0 =>
    show k1_off4 L 0 + 1 * 0 = tileNo L
    rw [k1_off4_eq]; rfl
  | 1 =>
    show k1_off4 L 1 + 1 * (x 0).val = (x 0).val
    rw [k1_off4_eq]; simp

/-- A landed copy of a table's head is the tile's row of the whole array. -/
theorem sumsRow (w : Vec F S512 .f32)
    (hw : w = tSHead.view.read (Elt F) (accS (tileR L R) (tileI (F := F) L I) (chk_of_inBins hI L) 196)) :
    ∀ j ∈ (sRow L).view.set, (sRow L).view.writes (Elt F) s0 [⟨Rect.whole S512, w⟩] j = sumsOf R I hI j := by
  intro j hj
  obtain ⟨x, -, rfl⟩ := Finset.mem_map.mp hj
  refine (congrFun (View.read_writes_whole (Val := Elt F) (sRow L).view s0 w) x).trans ?_
  rw [show (sRow L).view.emb x = _ from rect4_emb L x squeezes_S1x512_S512.numel_eq, hw]
  show _ = accS (tileR (coordsOf ⟨tileNo L, tileNo_lt L⟩) R) (tileI (F := F) (coordsOf ⟨tileNo L, tileNo_lt L⟩) I)
    (chk_of_inBins hI (coordsOf ⟨tileNo L, tileNo_lt L⟩)) 196 _
  simp only [coordsOf_tileNo]
  refine congrArg (accS (tileR L R) (tileI (F := F) L I) (chk_of_inBins hI L) 196) ?_
  refine funext fun (a : Fin 1) => ?_
  obtain rfl : a = 0 := Subsingleton.elim _ _
  apply Fin.ext
  show 0 + 1 * (x 0).val = (x 0).val
  omega

/-- The same of the counts. -/
theorem cntsRow (w : Vec F S512 .f32)
    (hw : w = tCHead.view.read (Elt F) (accC (tileI (F := F) L I) (chk_of_inBins hI L) 196)) :
    ∀ j ∈ (cRow L).view.set, (cRow L).view.writes (Elt F) c0 [⟨Rect.whole S512, w⟩] j = cntsOf (F := F) I hI j := by
  intro j hj
  obtain ⟨x, -, rfl⟩ := Finset.mem_map.mp hj
  refine (congrFun (View.read_writes_whole (Val := Elt F) (cRow L).view c0 w) x).trans ?_
  rw [show (cRow L).view.emb x = _ from rect4_emb L x squeezes_S1x512_S512.numel_eq, hw]
  show _ = accC (tileI (F := F) (coordsOf ⟨tileNo L, tileNo_lt L⟩) I) (chk_of_inBins hI (coordsOf ⟨tileNo L, tileNo_lt L⟩)) 196 _
  simp only [coordsOf_tileNo]
  refine congrArg (accC (tileI (F := F) L I) (chk_of_inBins hI L) 196) ?_
  refine funext fun (a : Fin 1) => ?_
  obtain rfl : a = 0 := Subsingleton.elim _ _
  apply Fin.ext
  show 0 + 1 * (x 0).val = (x 0).val
  omega

/-- The tile's run. -/
theorem tile_body (O : CellTallies nD τ sig (HIx 1)) (W : Waits sig (HIx 1)) (hO : ∀ g, O g none = 0) :
    iprop((levAts (K (F := F)).L (K (F := F)).lev : sProp 𝕄)
        ∗ ((rLoc d ↦[vecSet (tileNo L)]{fullShare} R) ∗ (iLoc d ↦[vecSet (tileNo L)]{fullShare} I)
          ∗ (sLoc d ↦[rowSet (tileNo L)]{fullShare} s0) ∗ (cLoc d ↦[rowSet (tileNo L)]{fullShare} c0))
        ∗ scopedBufs (thr d L) ∗ scopedSems0 (thr d L) ∗ owes (thr d L) O W)
      ⊢ wp frame (wpE (defs₀ (F := F)) 𝒱₀ (thr d L) none) Set.univ
          (cc1__sc_seg_body L rV (Memref.isWhole_whole _) iV (Memref.isWhole_whole _) sV (Memref.isWhole_whole _) cV' (Memref.isWhole_whole _)
            tR (Memref.isWhole_whole _) tI (Memref.isWhole_whole _) tS (Memref.isWhole_whole _) tC (Memref.isWhole_whole _)
            cc1_scoped0 cc1_scoped1 cc1_scoped2 cc1_scoped3)
          fun _ => iprop(((rLoc d ↦[vecSet (tileNo L)]{fullShare} R) ∗ (iLoc d ↦[vecSet (tileNo L)]{fullShare} I)
              ∗ (sLoc d ↦[rowSet (tileNo L)]{fullShare} sumsOf R I hI) ∗ (cLoc d ↦[rowSet (tileNo L)]{fullShare} cntsOf (F := F) I hI))
            ∗ scopedBufs (thr d L) ∗ scopedSems0 (thr d L)
            ∗ ∃ W', ⌜∀ p ∈ W', p ∈ W ∨ p.2 = none⌝ ∗ owes (thr d L) O W') := by
  simp only [cc1__sc_seg_body_eq_skeleton]; unfold cc1__sc_seg_body_skel
  simp only [k1_part1_eq_skeleton]; unfold k1_part1_skel
  simp only [bind_assoc]
  rw [(K (F := F)).scopedBufs_V facts d (cN L) (jN L), SparseCore.Cfg.scopedSems0_V (Val := Elt F) d (cN L) (jN L), ownSems0_thr, ownBufs_thr]
  iintro ⟨#Hlv, ⟨Hr, Hi, Hs, Hc⟩, ⟨⟨%g0, Hg0⟩, ⟨%g1, Hg1⟩, ⟨%g2, Hg2⟩, ⟨%g3, Hg3⟩, Hbufs⟩, ⟨Hm0, Hm1, Hm2, Hm3, Hsems⟩, HO⟩
  ihave Hmw := ((K (F := F)).mayWaits_none (thr := thr d L) hO) $$ Hlv
  ihave Hr := (Entails.of_eq (congrArg (fun S => (rLoc d ↦[S]{fullShare} R : sProp 𝕄)) (set_rSl L).symm)) $$ Hr
  ihave Hi := (Entails.of_eq (congrArg (fun S => (iLoc d ↦[S]{fullShare} I : sProp 𝕄)) (set_iSl L).symm)) $$ Hi
  ihave Hs := (Entails.of_eq (congrArg (fun S => (sLoc d ↦[S]{fullShare} s0 : sProp 𝕄)) (set_sRow L).symm)) $$ Hs
  ihave Hc := (Entails.of_eq (congrArg (fun S => (cLoc d ↦[S]{fullShare} c0 : sProp 𝕄)) (set_cRow L).symm)) $$ Hc
  ihave Hr : ((rSl L).view.loc (thr d L) ↦[(rSl L).view.set]{fullShare} R) $$ [Hr]; · iexact Hr
  ihave Hi : ((iSl L).view.loc (thr d L) ↦[(iSl L).view.set]{fullShare} I) $$ [Hi]; · iexact Hi
  ihave Hs : ((sRow L).view.loc (thr d L) ↦[(sRow L).view.set]{fullShare} s0) $$ [Hs]; · iexact Hs
  ihave Hc : ((cRow L).view.loc (thr d L) ↦[(cRow L).view.set]{fullShare} c0) $$ [Hc]; · iexact Hc
  ihave Hg0 : (tR.view.loc (thr d L) ↦{fullShare} g0) $$ [Hg0]; · iexact Hg0
  ihave Hg1 : (tI.view.loc (thr d L) ↦{fullShare} g1) $$ [Hg1]; · iexact Hg1
  ihave Hg2 : (tS.view.loc (thr d L) ↦{fullShare} g2) $$ [Hg2]; · iexact Hg2
  ihave Hg3 : (tC.view.loc (thr d L) ↦{fullShare} g3) $$ [Hg3]; · iexact Hg3
  sl_exec
  ihave Hg0 : (tR.view.loc (thr d L) ↦{fullShare} tileR (F := F) L R) $$ [Hg0]
  · iapply (Entails.of_eq (pointsTo_congr (fun j _ => congrFun (View.write_whole_univ cc1_scratch0 g0 (tileR (F := F) L R)) j))); iexact Hg0
  ihave Hg1 : (tI.view.loc (thr d L) ↦{fullShare} tileI (F := F) L I) $$ [Hg1]
  · iapply (Entails.of_eq (pointsTo_congr (fun j _ => congrFun (View.write_whole_univ cc1_scratch1 g1 (tileI (F := F) L I)) j))); iexact Hg1
  sl_for (invZ (F := F) d L) $$ [Hg2 Hg3]
  case region =>
    intro t u
    exact tripZ d L t u
  · unfold invZ
    isplitl [Hg2]
    · iexists g2; isplitr; · ipureintro; intro j hj; omega
      iexact Hg2
    · iexists g3; isplitr; · ipureintro; intro j hj; omega
      iexact Hg3
  iintro %_ HI
  ihave HI : (invZ (F := F) d L 33 ()) $$ [HI]; · iapply (Entails.of_eq (congrArg (fun n => invZ (F := F) d L n ()) trips1)); iexact HI
  unfold invZ
  icases HI with ⟨⟨%f2, %hf2, Hg2⟩, ⟨%f3, %hf3, Hg3⟩⟩
  obtain rfl := hf2.all
  obtain rfl := hf3.all
  sl_for (invA (F := F) d L (tileR L R) (tileI (F := F) L I) (chk_of_inBins hI L)) $$ [Hg0 Hg1 Hg2 Hg3]
  case region =>
    intro t u
    exact tripA d L _ _ _ t u
  · unfold invA
    isplitl [Hg0]; · iexact Hg0
    isplitl [Hg1]; · iexact Hg1
    isplitl [Hg2]; · iexact Hg2
    iexact Hg3
  iintro %_ HI
  ihave HI : (invA (F := F) d L (tileR L R) (tileI (F := F) L I) (chk_of_inBins hI L) 196 ()) $$ [HI]
  · iapply (Entails.of_eq (congrArg (fun n => invA (F := F) d L (tileR L R) (tileI (F := F) L I) (chk_of_inBins hI L) n ()) trips2)); iexact HI
  unfold invA
  icases HI with ⟨Hg0, Hg1, Hg2, Hg3⟩
  sl_exec
  ihave Hs := (Entails.of_eq (pointsTo_congr (sumsRow L R I hI s0 _ rfl))) $$ Hs
  ihave Hc := (Entails.of_eq (pointsTo_congr (cntsRow L I hI c0 _ rfl))) $$ Hc
  ihave Hs := (Entails.of_eq (congrArg (fun S => (sLoc d ↦[S]{fullShare} sumsOf R I hI : sProp 𝕄)) (set_sRow L))) $$ Hs
  ihave Hc := (Entails.of_eq (congrArg (fun S => (cLoc d ↦[S]{fullShare} cntsOf (F := F) I hI : sProp 𝕄)) (set_cRow L))) $$ Hc
  ihave Hr := (Entails.of_eq (congrArg (fun S => (rLoc d ↦[S]{fullShare} R : sProp 𝕄)) (set_rSl L))) $$ Hr
  ihave Hi := (Entails.of_eq (congrArg (fun S => (iLoc d ↦[S]{fullShare} I : sProp 𝕄)) (set_iSl L))) $$ Hi
  rw [wp_ret]; imodintro
  isplitl [Hr Hi Hs Hc]
  · isplitl [Hr]; · iexact Hr
    isplitl [Hi]; · iexact Hi
    isplitl [Hs]; · iexact Hs
    iexact Hc
  isplitl [Hg0 Hg1 Hg2 Hg3 Hbufs]
  · isplitl [Hg0]; · iexists _; iexact Hg0
    isplitl [Hg1]; · iexists _; iexact Hg1
    isplitl [Hg2]; · iexists _; iexact Hg2
    isplitl [Hg3]; · iexists _; iexact Hg3
    iexact Hbufs
  isplitl [Hm0 Hm1 Hm2 Hm3 Hsems]
  · isplitl [Hm0]; · iexact Hm0
    isplitl [Hm1]; · iexact Hm1
    isplitl [Hm2]; · iexact Hm2
    isplitl [Hm3]; · iexact Hm3
    iexact Hsems
  iexists _
  isplitr
  rotate_left
  · iexact HO
  · ipureintro
    intro p hp
    simp only [Finset.mem_insert, Set.mem_insert_iff] at hp
    rcases hp with rfl | rfl | rfl | rfl | hp
    · exact Or.inr rfl
    · exact Or.inr rfl
    · exact Or.inr rfl
    · exact Or.inr rfl
    · exact Or.inl hp

end Body

end Cert.Proof

end
-- ==== Proof.Call.lean ====
/-
  The SparseCore call: what the TensorCore hands its two SparseCores and takes back, the obligation of a tile, and how the
  four arrays divide among the 32 tiles.
-/
module

public import proofs.«01_k».proof.Proof.TileBody

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- A tile's share of the four arrays, at these contents. -/
def share (d : Dev nD) (n : ℕ) (R : Vec F S100352 .f32) (I : Vec F S100352 .i32) (s c : Vec F S32x512 .f32) : sProp 𝕄 :=
  iprop((rLoc d ↦[vecSet n]{fullShare} R) ∗ (iLoc d ↦[vecSet n]{fullShare} I)
    ∗ (sLoc d ↦[rowSet n]{fullShare} s) ∗ (cLoc d ↦[rowSet n]{fullShare} c))

/-- A tile's share can go through a handshake. -/
instance share_storable (d : Dev nD) (n : ℕ) (R : Vec F S100352 .f32) (I : Vec F S100352 .i32) (s c : Vec F S32x512 .f32) :
    BI.Storable (upEmb : UEmb _ 𝕄) (share d n R I s c) := by
  unfold share; infer_instance

/-- The four arrays whole, at these contents. -/
def wholes (d : Dev nD) (R : Vec F S100352 .f32) (I : Vec F S100352 .i32) (s c : Vec F S32x512 .f32) : sProp 𝕄 :=
  iprop((rLoc d ↦{fullShare} R) ∗ (iLoc d ↦{fullShare} I) ∗ (sLoc d ↦{fullShare} s) ∗ (cLoc d ↦{fullShare} c))

section Deal

variable (R : Dev nD → Vec F S100352 .f32) (I : Dev nD → Vec F S100352 .i32) (hI : ∀ d, InBins (I d))
variable (s0 c0 : Dev nD → Vec F S32x512 .f32)

/-- What goes to a SparseCore is the shares of its sixteen tiles; what comes back, the same with the rows filled. -/
def P : (K (F := F)).Pay (nD := nD) (Val := Elt F) (Name := ℕ) (U := UU) where
  st := fun q d c => bigSep Finset.univ fun i : Fin ((K (F := F)).nSub q) => share d (2 * i.val + c.val) (R d) (I d) (s0 d) (c0 d)
  dn := fun q d c => bigSep Finset.univ fun i : Fin ((K (F := F)).nSub q) => share d (2 * i.val + c.val) (R d) (I d) (sumsOf (R d) (I d) (hI d)) (cntsOf (F := F) (I d) (hI d))
  go := fun _ d c i => share d (2 * i.val + c.val) (R d) (I d) (s0 d) (c0 d)
  td := fun _ d c i => share d (2 * i.val + c.val) (R d) (I d) (sumsOf (R d) (I d) (hI d)) (cntsOf (F := F) (I d) (hI d))
  x := fun _ _ => iprop(emp)

/-- So can all that the call carries. -/
instance P_storable : (P (F := F) R I hI s0 c0).IsStorable where
  st _ d c := by unfold P; infer_instance
  dn _ d c := by unfold P; infer_instance
  go _ _ _ _ := by unfold P; infer_instance
  td _ _ _ _ := by unfold P; infer_instance

/-- What is handed over can be taken back. -/
theorem lend (A B : sProp 𝕄) : A ⊢ |={Set.univ}=> iprop(A ∗ (B -∗ B)) := by
  iintro H; imodintro
  isplitl [H]; · iexact H
  iintro H; iexact H

/-- A SparseCore's operands are its tiles' shares. -/
theorem vecSplit : (K (F := F)).VecSplit' (P R I hI s0 c0) 0 := fun _ _ => lend _ _

/-- The coordinates of a tile, by its SparseCore and its place there. -/
def coordsV (c : Fin (grid1.bound 0)) (s : Fin (grid1.bound 1)) : grid1.Coords :=
  fun | 0 => c | 1 => s | ⟨_ + 2, h⟩ => absurd h (Nat.not_lt.2 (Nat.le_add_left _ _))

/-- What the tile at a place runs. -/
theorem defs₀_vector (c : Fin τ.nSC) (s : Fin τ.nSub) :
    defs₀ (F := F) (.scVector c s) 1 ()
      = SparseCore.onTile hcore1 hsub1 (fun c s => cc1__sc_seg_body (coordsV c s)
          rV (Memref.isWhole_whole _) iV (Memref.isWhole_whole _) sV (Memref.isWhole_whole _) cV' (Memref.isWhole_whole _)
            tR (Memref.isWhole_whole _) tI (Memref.isWhole_whole _) tS (Memref.isWhole_whole _) tC (Memref.isWhole_whole _)
            cc1_scoped0 cc1_scoped1 cc1_scoped2 cc1_scoped3) ⟨⟩ c s := rfl

/-- A tile's waits were all before the kernel's own or of its call. -/
theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- An empty part can be dropped. -/
theorem drop_emp (A B C : sProp 𝕄) : iprop(A ∗ emp ∗ B ∗ C) ⊢ iprop(A ∗ B ∗ C) := by
  iintro ⟨Ha, -, Hb, Hc⟩
  isplitl [Ha]; · iexact Ha
  isplitl [Hb]; · iexact Hb
  iexact Hc

set_option maxRecDepth 1024 in
/-- Every tile, from its share, leaves its share with its rows filled. -/
theorem tileObl : (K (F := F)).TileObl (D (F := F)) 𝒱 (P R I hI s0 c0) v₀ 0 := by
  intro d c i O W hO _ _
  simp only [show (P R I hI s0 c0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hb := (tile_body (F := F) d (coordsV ⟨_, hc.1⟩ ⟨_, hc.2⟩) (R d) (I d) (hI d) (s0 d) (c0 d) O W hO).trans
    (wp_mono frame _ _ fun _ => widen (q := 0))
  exact (drop_emp _ _ _).trans hb

end Deal

/-! ## The arrays divide among the tiles -/

/-- An array whose elements are numbered below 32 divides into the tiles' parts. -/
theorem pts_deal {ℓ : Loc nD τ sig} (f : Buf (Elt F) ℓ) (S : ℕ → Finset (Idx ℓ)) (num : Idx ℓ → ℕ) (hlt : ∀ j, num j < 32)
    (hS : ∀ n j, j ∈ S n ↔ num j = n) :
    (ℓ ↦{fullShare} f : sProp 𝕄)
      = bigSep Finset.univ fun c : Fin 2 => bigSep Finset.univ fun i : Fin 16 => ℓ ↦[S (2 * i.val + c.val)]{fullShare} f := by
  have inner : ∀ c : Fin 2, (bigSep Finset.univ fun i : Fin 16 => (ℓ ↦[S (2 * i.val + c.val)]{fullShare} f : sProp 𝕄))
      = ℓ ↦[Finset.univ.biUnion fun i : Fin 16 => S (2 * i.val + c.val)]{fullShare} f := fun c =>
    (pointsTo_biUnion Finset.univ (fun i : Fin 16 => S (2 * i.val + c.val)) (fun a _ b _ hab =>
      Finset.disjoint_left.mpr fun j ha hb => hab (Fin.ext (by rw [hS] at ha hb; omega)))).symm
  rw [bigSep_congr fun c _ => inner c, ← pointsTo_biUnion Finset.univ (fun c : Fin 2 => Finset.univ.biUnion fun i : Fin 16 => S (2 * i.val + c.val))
    (fun a _ b _ hab => Finset.disjoint_left.mpr fun j ha hb => hab (Fin.ext (by
      simp only [Finset.mem_biUnion, Finset.mem_univ, true_and, hS] at ha hb
      obtain ⟨x, hx⟩ := ha; obtain ⟨y, hy⟩ := hb
      omega)))]
  congr 1
  refine (Finset.eq_univ_of_forall fun j => ?_).symm
  simp only [Finset.mem_biUnion, Finset.mem_univ, true_and, hS]
  have := hlt j
  exact ⟨⟨num j % 2, by omega⟩, ⟨num j / 2, by omega⟩, by show _ = 2 * (num j / 2) + num j % 2; omega⟩

/-- An element of a vector lies in one of 32 blocks. -/
theorem vec_lt (j : S100352.Idx) : (j 0).val / 3136 < 32 := by have : (j 0).val < 100352 := (j 0).isLt; omega
/-- An element of a table lies in one of 32 rows. -/
theorem row_lt (j : S32x512.Idx) : (j 0).val < 32 := (j 0).isLt

/-- The four arrays whole are the shares of the 32 tiles. -/
theorem wholes_deal (d : Dev nD) (R : Vec F S100352 .f32) (I : Vec F S100352 .i32) (s c : Vec F S32x512 .f32) :
    wholes d R I s c
      = bigSep Finset.univ fun k : Fin 2 => bigSep Finset.univ fun i : Fin 16 => share d (2 * i.val + k.val) R I s c := by
  unfold wholes share
  simp only [bigSep_sep']
  rw [pts_deal (ℓ := rLoc d) R vecSet (fun j : S100352.Idx => (j 0).val / 3136) vec_lt (fun _ _ => mem_vecSet),
    pts_deal (ℓ := iLoc d) I vecSet (fun j : S100352.Idx => (j 0).val / 3136) vec_lt (fun _ _ => mem_vecSet),
    pts_deal (ℓ := sLoc d) s rowSet (fun j : S32x512.Idx => (j 0).val) row_lt (fun _ _ => mem_rowSet),
    pts_deal (ℓ := cLoc d) c rowSet (fun j : S32x512.Idx => (j 0).val) row_lt (fun _ _ => mem_rowSet)]

section Deal

variable (R : Dev nD → Vec F S100352 .f32) (I : Dev nD → Vec F S100352 .i32) (hI : ∀ d, InBins (I d))
variable (s0 c0 : Dev nD → Vec F S32x512 .f32)

/-- What the call takes and what it hands back. -/
theorem st_eq (d : Dev nD) : (bigSep Finset.univ fun c : Fin ((K (F := F)).nCore 0) => (P R I hI s0 c0).st 0 d c) = wholes d (R d) (I d) (s0 d) (c0 d) :=
  (wholes_deal d (R d) (I d) (s0 d) (c0 d)).symm
/-- What the SparseCores hand back is the tiles' shares, one for each tile number. -/
theorem dn_eq (d : Dev nD) : (bigSep Finset.univ fun c : Fin ((K (F := F)).nCore 0) => (P R I hI s0 c0).dn 0 d c)
    = wholes d (R d) (I d) (sumsOf (R d) (I d) (hI d)) (cntsOf (F := F) (I d) (hI d)) :=
  (wholes_deal d (R d) (I d) (sumsOf (R d) (I d) (hI d)) (cntsOf (F := F) (I d) (hI d))).symm

end Deal

end Cert.Proof

end
-- ==== Proof.Bodies.lean ====
/-
  The two TensorCore kernels: what their bodies compute from the staged blocks, and the proof data of their pipelines.
-/
module

public import proofs.«01_k».proof.Proof.Setup
public import Idealize.ShloMosaic.Lib.Pipeline.RegionsLoop
public import Idealize.ShloMosaic.Lib.WritesUnit
public import Idealize.ShloMosaic.Lib.VecWindow

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- A memref's buffer on core `c`, held at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- What a memref on core `c` reads, its whole buffer held. -/
abbrev rd (c : Dev nD) {sp : Space} {S : Shape} {e : EltTy} (M : Memref sig .tc sp S e) (X : S.Idx → Elt F e) : sProp 𝕄 :=
  owns (c : Thread nD τ) M fullShare X

/-- What a whole memref reads, spelt with its buffer's contents. -/
theorem rd_eq (c : Dev nD) {sp : Space} {S : Shape} {e : EltTy} (M : Memref sig .tc sp S e) (h : M.IsWhole) (X : S.Idx → Elt F e) :
    (rd c M X : sProp 𝕄) = iprop(∃ f : Buf (Elt F) (M.view.loc (c : Thread nD τ)), ⌜M.view.read (Elt F) f = X⌝ ∗ pt c M f) := by
  unfold rd owns pt
  rw [show M.view.set = Finset.univ from h.set_eq_univ]

/-- A store over all of a buffer leaves what it stored. -/
theorem read_store_all {sp : Space} {S : Shape} {e : EltTy} (v : View sig .tc sp S e) {off : Fin S.rank → ℕ} (h0 : off = fun _ => 0)
    (inb : ∀ a, off a + S.size a ≤ S.size a) (f : v.ty.Contents (Elt F)) (x : S.Idx → Elt F e) :
    v.read (Elt F) (v.writes (Elt F) f [⟨Rect.unit (s := S) off S.size inb, x⟩]) = x := by
  funext y
  exact View.read_writes_cons_unit_of_mem v f inb x [] y y h0 fun a => (Nat.zero_add _).symm

/-- The origin of a matrix is zero in both axes. -/
theorem origin2 : (![0, 0] : Fin 2 → ℕ) = fun _ => 0 := funext fun a => by fin_cases a <;> rfl

/-- One grid point of the row-value kernel: from the staged block of rows and the two staged vectors it leaves the
    block of row values. -/
theorem rowval_run (c : Dev nD) (i : grid0.Coords) (M0 : Memref sig .tc .vmem S2000x128 .f32) (h0 : M0.IsWhole) (M1 : Memref sig .tc .vmem S1x128 .f32) (h1 : M1.IsWhole)
    (M2 : Memref sig .tc .vmem S1x128 .f32) (h2 : M2.IsWhole) (M3 : Memref sig .tc .vmem S2000x1 .f32) (h3 : M3.IsWhole)
    (X0 : Vec F S2000x128 .f32) (X1 X2 : Vec F S1x128 .f32) (E : Set ℕ) (Q : PUnit → sProp 𝕄) :
    iprop(rd c M0 X0 ∗ rd c M1 X1 ∗ rd c M2 X2 ∗ (∃ X3, rd c M3 X3)
        ∗ (rd c M0 X0 -∗ rd c M1 X1 -∗ rd c M2 X2 -∗ rd c M3 (k0_pay1 X0 X1 X2) -∗ Q ⟨⟩))
      ⊢ wp frame (wpE (defs₀ (F := F)) 𝒱₀ c none) E (cc0__rowval_body i M0 h0 M1 h1 M2 h2 M3 h3) Q := by
  simp only [rd_eq c M0 h0, rd_eq c M1 h1, rd_eq c M2 h2, rd_eq c M3 h3]
  rw [cc0__rowval_body_eq_skeleton]
  unfold cc0__rowval_body_skel
  iintro ⟨⟨%f0, %e0, H0⟩, ⟨%f1, %e1, H1⟩, ⟨%f2, %e2, H2⟩, ⟨%X3, %f3, %e3, H3⟩, Hk⟩
  subst e0 e1 e2
  sl_exec!
  sl_step
  iapply Hk $$ [H0] [H1] [H2] [H3]
  · iexists f0; isplitr; · ipureintro; rfl
    iexact H0
  · iexists f1; isplitr; · ipureintro; rfl
    iexact H1
  · iexists f2; isplitr; · ipureintro; rfl
    iexact H2
  · iexists _; isplitr; swap; (· iexact H3)
    ipureintro
    unfold rowval_run.sl.H3_1
    rw [read_store_all _ origin2, View.readAt_full, View.readAt_full, View.readAt_full]

/-- The epilogue: from the tiles' sums and counts, the two vectors and the broadcast word it leaves the row of results. -/
theorem epilogue_run (c : Dev nD) (M0 : Memref sig .tc .vmem S32x512 .f32) (h0 : M0.IsWhole) (M1 : Memref sig .tc .vmem S32x512 .f32) (h1 : M1.IsWhole)
    (M2 : Memref sig .tc .vmem S1x128 .f32) (h2 : M2.IsWhole) (M3 : Memref sig .tc .vmem S1x128 .f32) (h3 : M3.IsWhole)
    (M4 : Memref sig .tc .vmem S1x512 .f32) (h4 : M4.IsWhole) (M5 : Memref sig .tc .vmem S1x512 .f32) (h5 : M5.IsWhole)
    (X0 X1 : Vec F S32x512 .f32) (X2 X3 : Vec F S1x128 .f32) (X4 : Vec F S1x512 .f32) (E : Set ℕ) (Q : PUnit → sProp 𝕄) :
    iprop(rd c M0 X0 ∗ rd c M1 X1 ∗ rd c M2 X2 ∗ rd c M3 X3 ∗ rd c M4 X4 ∗ (∃ X5, rd c M5 X5)
        ∗ (rd c M0 X0 -∗ rd c M1 X1 -∗ rd c M2 X2 -∗ rd c M3 X3 -∗ rd c M4 X4 -∗ rd c M5 (k2_pay1 X2 X3 X0 X1 X4) -∗ Q ⟨⟩))
      ⊢ wp frame (wpE (defs₀ (F := F)) 𝒱₀ c none) E (cc2__epilogue_body M0 h0 M1 h1 M2 h2 M3 h3 M4 h4 M5 h5) Q := by
  simp only [rd_eq c M0 h0, rd_eq c M1 h1, rd_eq c M2 h2, rd_eq c M3 h3, rd_eq c M4 h4, rd_eq c M5 h5]
  rw [cc2__epilogue_body_eq_skeleton]
  unfold cc2__epilogue_body_skel
  iintro ⟨⟨%f0, %e0, H0⟩, ⟨%f1, %e1, H1⟩, ⟨%f2, %e2, H2⟩, ⟨%f3, %e3, H3⟩, ⟨%f4, %e4, H4⟩, ⟨%X5, %f5, %e5, H5⟩, Hk⟩
  subst e0 e1 e2 e3 e4
  sl_exec!
  sl_step
  iapply Hk $$ [H0] [H1] [H2] [H3] [H4] [H5]
  · iexists f0; isplitr; · ipureintro; rfl
    iexact H0
  · iexists f1; isplitr; · ipureintro; rfl
    iexact H1
  · iexists f2; isplitr; · ipureintro; rfl
    iexact H2
  · iexists f3; isplitr; · ipureintro; rfl
    iexact H3
  · iexists f4; isplitr; · ipureintro; rfl
    iexact H4
  · iexists _; isplitr; swap; (· iexact H5)
    ipureintro
    unfold epilogue_run.sl.H5_1
    rw [read_store_all _ origin2, View.readAt_full, View.readAt_full, View.readAt_full, View.readAt_full, View.readAt_full]

/-! ## The proof data of the two regions, at an entry valuation -/

variable (V : (c : Dev nD) → (b : Ref sig .tc) → Buf (Elt F) ((c : Thread nD τ).loc b))

/-- The pairs a TensorCore may have recorded before call `n`. -/
def seen (c : Dev nD) (n : ℕ) : Set (SemLoc sig × HIx 1) := {p | (K (F := F)).lev ((SparseCore.T c : Thread nD τ), p.1) p.2 ≤ 8 * n}

/-- The row-value kernel's input blocks at point `t`: the rows, and the two vectors, which do not move. -/
abbrev blkX (c : Dev nD) (t : Fin cfg0.N) : Vec F S2000x128 .f32 := ((cfg0.win 0).blk t).view.read (Elt F) (V c main_arg0)
/-- The staged scales at a grid point. -/
abbrev blkG (c : Dev nD) (t : Fin cfg0.N) : Vec F S1x128 .f32 := ((cfg0.win 1).blk t).view.read (Elt F) (V c main_v0)
/-- The staged weights at a grid point. -/
abbrev blkW (c : Dev nD) (t : Fin cfg0.N) : Vec F S1x128 .f32 := ((cfg0.win 2).blk t).view.read (Elt F) (V c main_v2)

/-- The row-value region, entered before call `n` from valuation `V`. -/
def dat0 (n : ℕ) (c : Dev nD) : Dat τ (Elt F) (HIx 1) ℕ UU ℕ cfg0 c where
  A w := V c (Pipeline.arrRef spec0 w)
  after w t := match w with
    | ⟨0, _⟩ => blkX V c t
    | ⟨1, _⟩ => blkG V c t
    | ⟨2, _⟩ => blkW V c t
    | ⟨3, _⟩ => k0_pay1 (blkX V c t) (blkG V c t) (blkW V c t)
  Φ _ := Pipeline.scopedRest (Ix := HIx 1) (Name := ℕ) (U := UU) (Lvl := ℕ) (Val := Elt F) spec0 c
  q _ := fullShare
  owed _ := (K (F := F)).Otc c n
  recorded _ := seen (F := F) c n

/-- A grid point of the row-value kernel finds its block of rows staged. -/
theorem before0_0 (n : ℕ) (c : Dev nD) (t : Fin cfg0.N) (d) : (dat0 V n c).before 0 t d = blkX V c t :=
  (dat0 V n c).before_in_eq_fetched 0 rfl (fun _ => rfl) (fun _ _ _ => rfl) (fun _ => rfl) t d
/-- It finds the scales staged. -/
theorem before0_1 (n : ℕ) (c : Dev nD) (t : Fin cfg0.N) (d) : (dat0 V n c).before 1 t d = blkG V c t :=
  (dat0 V n c).before_in_eq_fetched 1 rfl (fun _ => rfl) (fun _ _ _ => rfl) (fun _ => rfl) t d
/-- It finds the weights staged. -/
theorem before0_2 (n : ℕ) (c : Dev nD) (t : Fin cfg0.N) (d) : (dat0 V n c).before 2 t d = blkW V c t :=
  (dat0 V n c).before_in_eq_fetched 2 rfl (fun _ => rfl) (fun _ _ _ => rfl) (fun _ => rfl) t d

/-- The row-value kernel's body at every point keeps what the region's data say. -/
theorem body0 (n : ℕ) (c : Dev nD) : BodyObligation (dat0 V n c) (defs₀ (F := F)) 𝒱₀ none Set.univ := fun t => by
  rw [bigSep_W0, bigSep_W0]
  rw [show (dat0 V n c).Φ t.castSucc = (dat0 V n c).Φ t.succ from rfl,
    show (dat0 V n c).owesAt none t.castSucc = (dat0 V n c).owesAt none t.succ from rfl]
  simp only [before0_0, before0_1, before0_2]
  iintro ⟨HΦ, Howes, ⟨%d0, H0⟩, ⟨%d1, H1⟩, ⟨%d2, H2⟩, ⟨%d3, H3⟩⟩
  iapply (rowval_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (blkX V c t) (blkG V c t) (blkW V c t) Set.univ _)
  isplitl [H0]; · iexact H0
  isplitl [H1]; · iexact H1
  isplitl [H2]; · iexact H2
  isplitl [H3]; · iexists _; iexact H3
  iintro H0 H1 H2 H3
  isplitl [HΦ]; · iexact HΦ
  isplitl [Howes]; · iexact Howes
  isplitl [H0]; · iexact H0
  isplitl [H1]; · iexact H1
  isplitl [H2]; · iexact H2
  iexact H3

/-- The epilogue's inputs, staged whole. -/
abbrev stgS (c : Dev nD) : Vec F S32x512 .f32 := ((cfg2.win 0).blk t2_0).view.read (Elt F) (V c main_v6_0)
/-- The staged counts. -/
abbrev stgC (c : Dev nD) : Vec F S32x512 .f32 := ((cfg2.win 1).blk t2_0).view.read (Elt F) (V c main_v6_1)
/-- The staged shifts. -/
abbrev stgB (c : Dev nD) : Vec F S1x128 .f32 := ((cfg2.win 2).blk t2_0).view.read (Elt F) (V c main_v1)
/-- The staged weights. -/
abbrev stgW (c : Dev nD) : Vec F S1x128 .f32 := ((cfg2.win 3).blk t2_0).view.read (Elt F) (V c main_v2)
/-- The staged bias row. -/
abbrev stgb (c : Dev nD) : Vec F S1x512 .f32 := ((cfg2.win 4).blk t2_0).view.read (Elt F) (V c main_v8)

/-- The epilogue region, entered before call `n` from valuation `V`. -/
def dat1 (n : ℕ) (c : Dev nD) : Dat τ (Elt F) (HIx 1) ℕ UU ℕ cfg2 c where
  A w := V c (Pipeline.arrRef spec2 w)
  after w _ := match w with
    | ⟨0, _⟩ => stgS V c
    | ⟨1, _⟩ => stgC V c
    | ⟨2, _⟩ => stgB V c
    | ⟨3, _⟩ => stgW V c
    | ⟨4, _⟩ => stgb V c
    | ⟨5, _⟩ => k2_pay1 (stgB V c) (stgW V c) (stgS V c) (stgC V c) (stgb V c)
  Φ _ := Pipeline.scopedRest (Ix := HIx 1) (Name := ℕ) (U := UU) (Lvl := ℕ) (Val := Elt F) spec2 c
  q _ := fullShare
  owed _ := (K (F := F)).Otc c n
  recorded _ := seen (F := F) c n

/-- The epilogue finds the sums staged. -/
theorem before1_0 (n : ℕ) (c : Dev nD) (d) : (dat1 V n c).before 0 t2_0 d = stgS V c := by
  unfold Dat.before; rw [if_pos (fetch2_0 _)]; rfl
/-- It finds the counts staged. -/
theorem before1_1 (n : ℕ) (c : Dev nD) (d) : (dat1 V n c).before 1 t2_0 d = stgC V c := by
  unfold Dat.before; rw [if_pos (fetch2_1 _)]; rfl
/-- It finds the shifts staged. -/
theorem before1_2 (n : ℕ) (c : Dev nD) (d) : (dat1 V n c).before 2 t2_0 d = stgB V c := by
  unfold Dat.before; rw [if_pos (fetch2_2 _)]; rfl
/-- It finds the weights staged. -/
theorem before1_3 (n : ℕ) (c : Dev nD) (d) : (dat1 V n c).before 3 t2_0 d = stgW V c := by
  unfold Dat.before; rw [if_pos (fetch2_3 _)]; rfl
/-- It finds the bias row staged. -/
theorem before1_4 (n : ℕ) (c : Dev nD) (d) : (dat1 V n c).before 4 t2_0 d = stgb V c := by
  unfold Dat.before; rw [if_pos (fetch2_4 _)]; rfl

/-- The epilogue's body keeps what the region's data say. -/
theorem body1 (n : ℕ) (c : Dev nD) : BodyObligation (dat1 V n c) (defs₀ (F := F)) 𝒱₀ none Set.univ := fun t => by
  obtain rfl := fin_N2 t
  rw [bigSep_W2, bigSep_W2]
  rw [show (dat1 V n c).Φ t2_0.castSucc = (dat1 V n c).Φ t2_0.succ from rfl,
    show (dat1 V n c).owesAt none t2_0.castSucc = (dat1 V n c).owesAt none t2_0.succ from rfl]
  simp only [before1_0, before1_1, before1_2, before1_3, before1_4]
  iintro ⟨HΦ, Howes, ⟨%d0, H0⟩, ⟨%d1, H1⟩, ⟨%d2, H2⟩, ⟨%d3, H3⟩, ⟨%d4, H4⟩, ⟨%d5, H5⟩⟩
  iapply (epilogue_run c (win2_0.stage (cfg2.slots t2_0 0)) (hstage2_0 0) (win2_1.stage (cfg2.slots t2_0 1)) (hstage2_1 0) (win2_2.stage (cfg2.slots t2_0 2)) (hstage2_2 0) (win2_3.stage (cfg2.slots t2_0 3)) (hstage2_3 0) (win2_4.stage (cfg2.slots t2_0 4)) (hstage2_4 0) (win2_5.stage (cfg2.slots t2_0 5)) (hstage2_5 0) (stgS V c) (stgC V c) (stgB V c) (stgW V c) (stgb V c) Set.univ _)
  isplitl [H0]; · iexact H0
  isplitl [H1]; · iexact H1
  isplitl [H2]; · iexact H2
  isplitl [H3]; · iexact H3
  isplitl [H4]; · iexact H4
  isplitl [H5]; · iexists _; iexact H5
  iintro H0 H1 H2 H3 H4 H5
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

end Cert.Proof

end
-- ==== Proof.Regions.lean ====
/-
  The two TensorCore kernels as regions of @main: entered with every unscoped buffer at a valuation, each leaves them at
  that valuation with its result's array replaced by the write-backs. What the TensorCore owes to the SparseCores rides along.
-/
module

public import proofs.«01_k».proof.Proof.Bodies

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [∀ e, Nonempty (Elt F e)]

local notation "𝕄" => MT nD τ sig (HIx 1) (Elt F) ℕ UU ℕ

/-- The pipelines take no prefetched table. -/
abbrev adm : (p : Fin 2) → (pcfgs (F := F) p).Adm := fun p => (cfgs p).toPCfg_adm

variable (V : (c : Dev nD) → (b : Ref sig .tc) → Buf (Elt F) ((c : Thread nD τ).loc b))

/-- Both regions' proof data, before call `n`, at one valuation. -/
def pdats (n : ℕ) : (p : Fin 2) → (c : Dev nD) → Dat τ (Elt F) (HIx 1) ℕ UU ℕ (Pipeline.pin (pcfgs (F := F)) adm p) c
  | ⟨0, _⟩ => fun c => dat0 V n c
  | ⟨1, _⟩ => fun c => dat1 V n c

/-- What the TensorCore owes before call `n`, its recorded pairs at or below the call's level. -/
abbrev tcOwes (c : Dev nD) (n : ℕ) : sProp 𝕄 :=
  iprop(∃ W, ⌜(K (F := F)).WBelow (SparseCore.T c) W (8 * n)⌝ ∗ owes (SparseCore.T c : Thread nD τ) ((K (F := F)).Otc c n) W)

/-- The TensorCore owes nothing at the level of its own copies. -/
theorem Otc_none (c : Dev nD) (n : ℕ) (g : GSem nD τ sig) : (K (F := F)).Otc c n g (none : HIx 1) = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun i _ => (tallyAt_apply _ _ _ _ _).trans (if_neg fun h => Option.some_ne_none _ h.2.symm)
  · rfl

/-- What the TensorCore owes, as a pipelined call takes it. -/
theorem owes_in (c : Dev nD) (n : ℕ) {cfg : Cfg sig Λ₀} : (tcOwes (F := F) c n : sProp 𝕄)
    ⊢ Pipeline.owesWithin c ((K (F := F)).Otc c n) (seen (F := F) c n ∪ cfg.waitPairs none) := by
  unfold Pipeline.owesWithin
  iintro ⟨%W, %hW, H⟩
  iexists W
  isplitr
  · ipureintro
    exact fun p hp => Or.inl (hW p hp)
  iexact H

/-- What the TensorCore owes, as a pipelined call gives it back. -/
theorem owes_out (c : Dev nD) (n : ℕ) {cfg : Cfg sig Λ₀} :
    (Pipeline.owesWithin c ((K (F := F)).Otc c n) (seen (F := F) c n ∪ cfg.waitPairs none) : sProp 𝕄) ⊢ tcOwes (F := F) c n := by
  unfold Pipeline.owesWithin
  iintro ⟨%W, %hW, H⟩
  iexists W
  isplitr
  · ipureintro
    intro p hp
    rcases hW hp with h | ⟨w, s, rfl⟩
    · exact h
    · exact Nat.zero_le _
  iexact H

set_option backward.isDefEq.respectTransparency.types false in
/-- The row-value region, from valuation `V` to any `Vp` that has the result's array as written back and agrees with `V` off it. -/
def reg0 (n : ℕ) (Vp : (c : Dev nD) → (b : Ref sig .tc) → Buf (Elt F) ((c : Thread nD τ).loc b))
    (hVp_out : ∀ c, Vp c main_v3 = (dat0 V n c).arrAt 3 cfg0.N)
    (hVp_ne : ∀ c (b : Ref sig .tc), b ≠ main_v3 → Vp c b = V c b) :
    Pipeline.RegionSeg (pcfgs (F := F)) adm (pdats V n) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body0 V n c).loose
  hwaits c := Pipeline.cellsWaits_intro _ _ _ _ c fun w s t => (K (F := F)).mayWait_none _ (Otc_none c n)
  pre c := iprop(unscopedBufs c (V c) ∗ tcOwes (F := F) c n)
  post c := iprop(unscopedBufs c (Vp c) ∗ tcOwes (F := F) c n)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats V n) (launch0).win (launch0).arr_whole c
      ((pdats V n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in (F := F) c n (cfg := cfg0)) $$ HO
    isplitr; · iempintro
    iexact Hrest
  hin c := by
    rw [show (pdats V n 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V n 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hO : (pdats V n 0 c).owesAt none (Fin.last (Pipeline.pin (pcfgs (F := F)) adm 0).N) ⊢ tcOwes (F := F) c n := owes_out (F := F) c n (cfg := cfg0)
    have hjoin := Pipeline.unscopedBufs_of_arrays (p := 0) (pcfgs (F := F)) adm (Ix := HIx 1) (Name := ℕ) (U := UU) (Lvl := ℕ) (launch0).win (launch0).arr_whole c
      (pdats V n) ((pdats V n 0 c).share_full fun _ => rfl) (V c) (Vp c) ((pdats V n 0 c).arrAt · cfg0.N)
      (fun w => by
        fin_cases w
        · exact ((pdats V n 0 c).arrAt_in 0 rfl _).trans (hVp_ne c main_arg0 (by decide)).symm
        · exact ((pdats V n 0 c).arrAt_in 1 rfl _).trans (hVp_ne c main_v0 (by decide)).symm
        · exact ((pdats V n 0 c).arrAt_in 2 rfl _).trans (hVp_ne c main_v2 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    iapply hO $$ HO

set_option backward.isDefEq.respectTransparency.types false in
/-- The epilogue region, likewise. -/
def reg1 (n : ℕ) (Vp : (c : Dev nD) → (b : Ref sig .tc) → Buf (Elt F) ((c : Thread nD τ).loc b))
    (hVp_out : ∀ c, Vp c main_v9 = (dat1 V n c).arrAt 5 cfg2.N)
    (hVp_ne : ∀ c (b : Ref sig .tc), b ≠ main_v9 → Vp c b = V c b) :
    Pipeline.RegionSeg (pcfgs (F := F)) adm (pdats V n) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body1 V n c).loose
  hwaits c := Pipeline.cellsWaits_intro _ _ _ _ c fun w s t => (K (F := F)).mayWait_none _ (Otc_none c n)
  pre c := iprop(unscopedBufs c (V c) ∗ tcOwes (F := F) c n)
  post c := iprop(unscopedBufs c (Vp c) ∗ tcOwes (F := F) c n)
  X _ := BI.emp
  Y _ := BI.emp
  Z c := iprop(Pipeline.unscopedRest (Ix := HIx 1) (Name := ℕ) (U := UU) (Lvl := ℕ) spec2 c (V c))
  hentry c := by
    rw [Pipeline.ownSems0_none]
    have hsplit := Pipeline.arrays_of_unscopedBufs (p := 1) (pcfgs (F := F)) adm (pdats V n) (launch2).win (launch2).arr_whole c
      ((pdats V n 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in (F := F) c n (cfg := cfg2)) $$ HO
    isplitr; · iempintro
    iexact Hrest
  hin c := by
    rw [show (pdats V n 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V n 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hO : (pdats V n 1 c).owesAt none (Fin.last (Pipeline.pin (pcfgs (F := F)) adm 1).N) ⊢ tcOwes (F := F) c n := owes_out (F := F) c n (cfg := cfg2)
    have hjoin := Pipeline.unscopedBufs_of_arrays (p := 1) (pcfgs (F := F)) adm (Ix := HIx 1) (Name := ℕ) (U := UU) (Lvl := ℕ) (launch2).win (launch2).arr_whole c
      (pdats V n) ((pdats V n 1 c).share_full fun _ => rfl) (V c) (Vp c) ((pdats V n 1 c).arrAt · cfg2.N)
      (fun w => by
        fin_cases w
        · exact ((pdats V n 1 c).arrAt_in 0 rfl _).trans (hVp_ne c main_v6_0 (by decide)).symm
        · exact ((pdats V n 1 c).arrAt_in 1 rfl _).trans (hVp_ne c main_v6_1 (by decide)).symm
        · exact ((pdats V n 1 c).arrAt_in 2 rfl _).trans (hVp_ne c main_v1 (by decide)).symm
        · exact ((pdats V n 1 c).arrAt_in 3 rfl _).trans (hVp_ne c main_v2 (by decide)).symm
        · exact ((pdats V n 1 c).arrAt_in 4 rfl _).trans (hVp_ne c main_v8 (by decide)).symm
        · exact (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    iapply hO $$ HO

end Cert.Proof

end
-- ==== Proof.Enter.lean ====
/-
  The two TensorCore kernels entered from a program with SparseCore calls: each region as one step of @main.
-/
module

public import proofs.«01_k».proof.Proof.Call
public import proofs.«01_k».proof.Proof.Regions

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

/-- A TensorCore reference as a device buffer. -/
abbrev dr (b : Ref sig .tc) : DevRef τ sig := Proc.devRef .tc b

/-- A valuation per device, at the TensorCore's references. -/
abbrev fam (W : Dev nD → Valuation τ sig (Elt F)) : (c : Dev nD) → (b : Ref sig .tc) → Buf (Elt F) ((c : Thread nD τ).loc b) := fun c b => W c (dr b)

/-- Different staging cells have different semaphores. -/
theorem adm_inj : Function.Injective (Pipeline.cellOf (nD := nD) (τ := τ) (Pipeline.pin (pcfgs (F := F)) adm)) := cellOf_inj

/-! ## The two regions inside the SparseCore program -/

/-- What the TensorCore holds between calls has what it owes as a part. -/
theorem tcSt_owes (d : Dev nD) (n : ℕ) : ((K (F := F)).tcSt EH d n : sProp 𝕄)
    ⊢ iprop(tcOwes (F := F) d n ∗ (tcOwes (F := F) d n -∗ (K (F := F)).tcSt EH d n)) := by
  unfold SparseCore.Cfg.tcSt
  iintro ⟨H, Hr⟩
  isplitl [H]; · iexact H
  iintro H
  isplitl [H]; · iexact H
  iexact Hr

/-- A kernel's entry, lifted into the program with SparseCore calls, is that program's call of it. -/
theorem lift_entry (p : Fin 2) : SparseCore.liftProg (Q := 1) (nD := nD) (τ := τ) (sig := sig) (Val := Elt F) (Λ := ΛP (F := F)) (pr := .tc)
      (.op (.customCall (Pipeline.entry p) ()) .ret)
    = (Prog.lift (.customCall (SparseCore.inner (Pipeline.entry p)) ()) :
        Prog (TpuEff nD τ sig (Elt F) (SparseCore.Sig (ΛP (F := F)) 1) .tc) PUnit.{1}) := rfl

/-- So a proof of the entry is one of the call. -/
theorem wp_entry (p : Fin 2) (d : Dev nD) (Φ : PUnit.{1} → sProp 𝕄) :
    wp frame (wpE (D (F := F)) 𝒱 (T d) none) Set.univ (.op (.customCall (Pipeline.entry p) ()) .ret) Φ
      ⊢ wp frame (wpE ((K (F := F)).defs (D (F := F))) 𝒱 (T d) none) Set.univ (Prog.lift (.customCall (SparseCore.inner (Pipeline.entry p)) ())) Φ := by
  rw [← lift_entry p]
  exact (K (F := F)).wp_liftProg (D (F := F)) 𝒱 (T d) Set.univ none _ Φ

section Region

variable {R : Dev nD → Vec F S100352 .f32} {I : Dev nD → Vec F S100352 .i32} {hR : ∀ d, InBins (I d)} {s0 c0 : Dev nD → Vec F S32x512 .f32}

set_option backward.isDefEq.respectTransparency.types false in
/-- The row-value call, run from the host program. -/
theorem wp_reg0 (κ : GSem nD τ sig → ℕ) (d : Dev nD) (n : ℕ) (Va Vp : Dev nD → Valuation τ sig (Elt F))
    (hout : ∀ c, Vp c (dr main_v3) = (dat0 (fam Va) n c).arrAt 3 cfg0.N) (hne : ∀ c (b : Ref sig .tc), b ≠ main_v3 → Vp c (dr b) = Va c (dr b))
    (Φ : PUnit.{1} → sProp 𝕄) :
    iprop((K (F := F)).ctx EH (P R I hR s0 c0) κ ∗ boundary (T d) ∗ held (T d) (Pipeline.ucRefs τ sig) (Va d) ∗ tcOwes (F := F) d n
        ∗ Pipeline.cellsGhost (Pipeline.pin (pcfgs (F := F)) adm) EP 0 d ∗ Pipeline.toksInit (Pipeline.pin (pcfgs (F := F)) adm) EP 0 d
        ∗ ((boundary (T d) ∗ held (T d) (Pipeline.ucRefs τ sig) (Vp d) ∗ tcOwes (F := F) d n) -∗ Φ ⟨⟩))
      ⊢ wp frame (wpE ((K (F := F)).defs (D (F := F))) 𝒱 (T d) none) Set.univ
          (Prog.lift (.customCall (SparseCore.inner (Pipeline.entry 0)) ())) Φ := by
  refine .trans ?_ (wp_entry 0 d Φ)
  obtain ⟨Rg, hpre, hpost⟩ : ∃ Rg : Pipeline.RegionSeg (pcfgs (F := F)) adm (pdats (fam Va) n) (none : HIx 1) defs₀ 𝒱₀ (K (F := F)).L (K (F := F)).lev 0,
      Rg.pre d = iprop(unscopedBufs d (fam Va d) ∗ tcOwes (F := F) d n) ∧ Rg.post d = iprop(unscopedBufs d (fam Vp d) ∗ tcOwes (F := F) d n) :=
    ⟨reg0 (fam Va) n (fam Vp) hout hne, rfl, rfl⟩
  have h := Pipeline.RegionSeg.wp (pcfgs (F := F)) adm (pdats (fam Va) n) (none : HIx 1) adm_inj EP defs₀ 𝒱₀ (K (F := F)).L (K (F := F)).lev Rg d none
    (fun u h => absurd h (Option.not_mem_none u)) .ret Φ
  rw [hpre, hpost] at h
  refine .trans ?_ h
  rw [← Pipeline.unscopedBufs_held, ← Pipeline.unscopedBufs_held]
  iintro ⟨#Hctx, Hb, Hh, HO, Hg, Ht, Hk⟩
  ihave Hlev := (SparseCore.Cfg.ctx_levAts κ) $$ Hctx
  isplitl [Hk]
  · iintro ⟨Hb, Hh, HO⟩
    rw [wp_ret]; imodintro
    iapply Hk
    isplitl [Hb]; · iexact Hb
    isplitl [Hh] <;> iassumption
  isplitl [Hb]; · iexact Hb
  isplitl [Hh HO]; · isplitl [Hh] <;> iassumption
  isplitl [Hlev]; · iexact Hlev
  isplitl [Hg] <;> iassumption

set_option backward.isDefEq.respectTransparency.types false in
/-- The epilogue, run from the host program. -/
theorem wp_reg1 (κ : GSem nD τ sig → ℕ) (d : Dev nD) (n : ℕ) (Va Vp : Dev nD → Valuation τ sig (Elt F))
    (hout : ∀ c, Vp c (dr main_v9) = (dat1 (fam Va) n c).arrAt 5 cfg2.N) (hne : ∀ c (b : Ref sig .tc), b ≠ main_v9 → Vp c (dr b) = Va c (dr b))
    (Φ : PUnit.{1} → sProp 𝕄) :
    iprop((K (F := F)).ctx EH (P R I hR s0 c0) κ ∗ boundary (T d) ∗ held (T d) (Pipeline.ucRefs τ sig) (Va d) ∗ tcOwes (F := F) d n
        ∗ Pipeline.cellsGhost (Pipeline.pin (pcfgs (F := F)) adm) EP 1 d ∗ Pipeline.toksInit (Pipeline.pin (pcfgs (F := F)) adm) EP 1 d
        ∗ ((boundary (T d) ∗ held (T d) (Pipeline.ucRefs τ sig) (Vp d) ∗ tcOwes (F := F) d n) -∗ Φ ⟨⟩))
      ⊢ wp frame (wpE ((K (F := F)).defs (D (F := F))) 𝒱 (T d) none) Set.univ
          (Prog.lift (.customCall (SparseCore.inner (Pipeline.entry 1)) ())) Φ := by
  refine .trans ?_ (wp_entry 1 d Φ)
  obtain ⟨Rg, hpre, hpost⟩ : ∃ Rg : Pipeline.RegionSeg (pcfgs (F := F)) adm (pdats (fam Va) n) (none : HIx 1) defs₀ 𝒱₀ (K (F := F)).L (K (F := F)).lev 1,
      Rg.pre d = iprop(unscopedBufs d (fam Va d) ∗ tcOwes (F := F) d n) ∧ Rg.post d = iprop(unscopedBufs d (fam Vp d) ∗ tcOwes (F := F) d n) :=
    ⟨reg1 (fam Va) n (fam Vp) hout hne, rfl, rfl⟩
  have h := Pipeline.RegionSeg.wp (pcfgs (F := F)) adm (pdats (fam Va) n) (none : HIx 1) adm_inj EP defs₀ 𝒱₀ (K (F := F)).L (K (F := F)).lev Rg d none
    (fun u h => absurd h (Option.not_mem_none u)) .ret Φ
  rw [hpre, hpost] at h
  refine .trans ?_ h
  rw [← Pipeline.unscopedBufs_held, ← Pipeline.unscopedBufs_held]
  iintro ⟨#Hctx, Hb, Hh, HO, Hg, Ht, Hk⟩
  ihave Hlev := (SparseCore.Cfg.ctx_levAts κ) $$ Hctx
  isplitl [Hk]
  · iintro ⟨Hb, Hh, HO⟩
    rw [wp_ret]; imodintro
    iapply Hk
    isplitl [Hb]; · iexact Hb
    isplitl [Hh] <;> iassumption
  isplitl [Hb]; · iexact Hb
  isplitl [Hh HO]; · isplitl [Hh] <;> iassumption
  isplitl [Hlev]; · iexact Hlev
  isplitl [Hg] <;> iassumption

end Region

end Cert.Proof

end
-- ==== Proof.Main.lean ====
/-
  The run of the whole program: @main on a TensorCore as straight lines of host operations around the two TensorCore
  regions and the SparseCore call, the contents of every buffer after each, and the run of all the threads.
-/
module

public import proofs.«01_k».proof.Proof.Enter

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

/-! ## The host operations and the contents after each stretch -/

/-- The host operations before the row-value kernel. -/
def ops1 : List (HloOp τ sig (Elt F)) :=
  [StableHlo.reshape main_arg3 main_v0 (rfl : (.f32 : EltTy) = .f32) shapeCasts_S128_S1x128,
   StableHlo.reshape main_arg4 main_v1 (rfl : (.f32 : EltTy) = .f32) shapeCasts_S128_S1x128,
   StableHlo.reshape main_arg5 main_v2 (rfl : (.f32 : EltTy) = .f32) shapeCasts_S128x1_S1x128]

/-- The host operations between the row-value kernel and the SparseCore call. -/
def ops2 : List (HloOp τ sig (Elt F)) :=
  [StableHlo.nullary main_c (constantI S_ 32 512#32),
   StableHlo.TRef.unary (.of main_c : StableHlo.TRef sig ⟨S_, .i32⟩) main_call0.v0 id,
   StableHlo.TRef.binary (.of main_arg1 : StableHlo.TRef sig ⟨S100000, .i32⟩) main_call0.v0 main_call0.v1
    (fun x v => pad S100352 ![0] ![352] ![0] x v pads_S100000_S100352_03520 h_S_),
   StableHlo.reshape main_v3 main_v5 (rfl : (.f32 : EltTy) = .f32) shapeCasts_S100352x1_S100352]

/-- The host operations between the SparseCore call and the epilogue. -/
def ops3 : List (HloOp τ sig (Elt F)) :=
  [StableHlo.reshape main_arg6 main_v7 (rfl : (.f32 : EltTy) = .f32) shapeCasts_S1_S1x1,
   StableHlo.unary main_v7 main_v8 (broadcastInDim S1x512 ![0, 1] bcast_S1x1_S1x512_0_1 : (⟨S1x1, .f32⟩ : BufTy).Contents (Elt F) → (⟨S1x512, .f32⟩ : BufTy).Contents (Elt F))]

/-- The host operation after the epilogue. -/
def ops4 : List (HloOp τ sig (Elt F)) :=
  [StableHlo.reshape main_v9 main_v10 (rfl : (.f32 : EltTy) = .f32) shapeCasts_S1x512_S512x1]

variable (m : (ℓ : Loc nD τ sig) → Buf (Elt F) ℓ)

/-- The contents at launch. -/
def W0 (d : Dev nD) : Valuation τ sig (Elt F) := fun b => m (d, b)
/-- The contents after the first host operations. -/
def W1 (d : Dev nD) : Valuation τ sig (Elt F) := after ops1 (W0 m d)
/-- The contents after the row-value call. -/
def W2 (d : Dev nD) : Valuation τ sig (Elt F) :=
  Function.update (W1 m d) (dr main_v3) ((dat0 (fam (W1 m)) 0 d).arrAt 3 cfg0.N)
/-- The contents after the second host operations. -/
def W3 (d : Dev nD) : Valuation τ sig (Elt F) := after ops2 (W2 m d)

/-- Every padded segment word is a bin of a tile's table. -/
abbrev Segs : Prop := ∀ d, InBins (W3 m d (dr main_v4))

variable (hI : Segs m)

/-- The contents after the SparseCore call. -/
def W4 (d : Dev nD) : Valuation τ sig (Elt F) :=
  Function.update (Function.update (W3 m d) (dr main_v6_0) (sumsOf (W3 m d (dr main_v5)) (W3 m d (dr main_v4)) (hI d)))
    (dr main_v6_1) (cntsOf (F := F) (W3 m d (dr main_v4)) (hI d))
/-- The contents after the third host operations. -/
def W5 (d : Dev nD) : Valuation τ sig (Elt F) := after ops3 (W4 m hI d)
/-- The contents after the epilogue. -/
def W6 (d : Dev nD) : Valuation τ sig (Elt F) :=
  Function.update (W5 m hI d) (dr main_v9) ((dat1 (fam (W5 m hI)) 1 d).arrAt 5 cfg2.N)
/-- The contents at the end. -/
def W7 (d : Dev nD) : Valuation τ sig (Elt F) := after ops4 (W6 m hI d)

/-! ## @main as straight lines around the three kernels -/

/-- The host program, call by call. -/
theorem main_eq (d : Dev nD) : main (F := F) d = (do
    seq ops1
    Prog.lift (.customCall (SparseCore.inner (Pipeline.entry 0)) ())
    seq ops2
    (K (F := F)).run d 0
    seq ops3
    Prog.lift (.customCall (SparseCore.inner (Pipeline.entry 1)) ())
    seq ops4) := by
  simp only [main, fn_pad.body, ops1, ops2, ops3, ops4, seq, bind_assoc, pure_bind]

/-! ## The four arrays of the SparseCore call out of all the buffers, and back -/

/-- The four arrays, as device buffers. -/
def four : Finset (DevRef τ sig) := {dr main_v5, dr main_v4, dr main_v6_0, dr main_v6_1}

/-- The four arrays of the SparseCore call are among the buffers held. -/
theorem four_sub : four ⊆ Pipeline.ucRefs τ sig := by
  intro b hb
  simp only [four, Finset.mem_insert, Finset.mem_singleton] at hb
  refine Finset.mem_filter.mpr ⟨?_, ?_⟩
  · rcases hb with rfl | rfl | rfl | rfl <;> exact Finset.mem_map.mpr ⟨_, Finset.mem_univ _, rfl⟩
  · rcases hb with rfl | rfl | rfl | rfl <;> decide

/-- The four arrays, taken out of the buffers held. -/
theorem held_four (d : Dev nD) (W : Valuation τ sig (Elt F)) :
    (held (T d) four W : sProp 𝕄) = wholes d (W (dr main_v5)) (W (dr main_v4)) (W (dr main_v6_0)) (W (dr main_v6_1)) := by
  unfold held four wholes
  rw [SparseCore.bigSep_insert' (by decide), SparseCore.bigSep_insert' (by decide), SparseCore.bigSep_insert' (by decide), bigSep_singleton]

/-- The other buffers do not see the SparseCore call. -/
theorem held_rest (d : Dev nD) (W W' : Valuation τ sig (Elt F)) (h : ∀ b, b ≠ dr main_v6_0 → b ≠ dr main_v6_1 → W' b = W b) :
    (held (T d) (Pipeline.ucRefs τ sig \ four) W : sProp 𝕄) = held (T d) (Pipeline.ucRefs τ sig \ four) W' := by
  refine StableHlo.held_congr _ fun b hb => (h b ?_ ?_).symm
  · rintro rfl; exact (Finset.mem_sdiff.mp hb).2 (by simp [four])
  · rintro rfl; exact (Finset.mem_sdiff.mp hb).2 (by simp [four])

/-! ## The launch's ghost state -/

/-- What @main takes of the two pipelines' ghost state on a device. -/
def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

/-- The ghost state at launch. -/
def u₀ : UU := (initOf (K (F := F)).hsCells (K (F := F)).hsToks,
  (initOf (Pipeline.cells (Pipeline.pin (pcfgs (F := F)) adm) adm_inj) (Pipeline.launchToks (Pipeline.pin (pcfgs (F := F)) adm) adm_inj), 1))

/-- The ghost state at launch gives each thread what it starts with. -/
theorem hu₀ (R : Dev nD → Vec F S100352 .f32) (I : Dev nD → Vec F S100352 .i32) (hR : ∀ d, InBins (I d)) (s0 c0 : Dev nD → Vec F S32x512 .f32) :
    (ownU (u₀ (F := F)) : sProp 𝕄)
      ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P R I hR s0 c0).x q thr) := by
  unfold u₀
  iintro Hu
  ihave H := (ownU_pair _ _) $$ Hu
  icases H with ⟨HH, HR⟩
  ihave H2 := (own_pair_emb embR _ _) $$ HR
  icases H2 with ⟨HP, -⟩
  have hfund := Pipeline.fund_ghost (Val := Elt F) (Name := ℕ) (Lvl := ℕ) (U := UU) (Ix := HIx 1) (Pipeline.pin (pcfgs (F := F)) adm) EP adm_inj
  have hEP : ∀ x : UP, (BI.own (((Emb.inl : Emb UP (UP × Counters)).trans embR) x) : sProp 𝕄) ⊢ BI.own (EP x) := fun x => BI.Entails.refl _
  ihave HP := (hEP _) $$ HP
  imod hfund $$ HP with ⟨Hg, Ht⟩
  imodintro
  isplitl [HH]; · iexact HH
  isplitl [Hg Ht]
  · unfold G
    rw [bigSep_sep']
    isplitl [Hg] <;> iassumption
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-- What the TensorCore starts with, part by part. -/
theorem G_eq (d : Dev nD) : (G d : sProp 𝕄) = iprop(
      (Pipeline.cellsGhost (Pipeline.pin (pcfgs (F := F)) adm) EP 0 d ∗ Pipeline.cellsGhost (Pipeline.pin (pcfgs (F := F)) adm) EP 1 d)
    ∗ (Pipeline.toksInit (Pipeline.pin (pcfgs (F := F)) adm) EP 0 d ∗ Pipeline.toksInit (Pipeline.pin (pcfgs (F := F)) adm) EP 1 d)) := by
  unfold G
  rw [show (Finset.univ : Finset (Fin 2)) = {0, 1} by decide, SparseCore.bigSep_insert' (by decide), bigSep_singleton,
    SparseCore.bigSep_insert' (by decide), bigSep_singleton]

/-! ## @main -/

/-- The first host operations touch held buffers only. -/
theorem ops1_sub : ∀ op ∈ (ops1 : List (HloOp τ sig (Elt F))), op.bufs ⊆ Pipeline.ucRefs τ sig := by
  intro op h
  refine Pipeline.sub_ucRefs op ?_
  simp only [ops1, List.mem_cons, List.not_mem_nil, or_false] at h
  rcases h with rfl | rfl | rfl <;> simp
/-- The second host operations touch held buffers only. -/
theorem ops2_sub : ∀ op ∈ (ops2 : List (HloOp τ sig (Elt F))), op.bufs ⊆ Pipeline.ucRefs τ sig := by
  intro op h
  refine Pipeline.sub_ucRefs op ?_
  simp only [ops2, List.mem_cons, List.not_mem_nil, or_false] at h
  rcases h with rfl | rfl | rfl | rfl <;> simp
/-- The third host operations touch held buffers only. -/
theorem ops3_sub : ∀ op ∈ (ops3 : List (HloOp τ sig (Elt F))), op.bufs ⊆ Pipeline.ucRefs τ sig := by
  intro op h
  refine Pipeline.sub_ucRefs op ?_
  simp only [ops3, List.mem_cons, List.not_mem_nil, or_false] at h
  rcases h with rfl | rfl <;> simp
/-- The last host operation touches held buffers only. -/
theorem ops4_sub : ∀ op ∈ (ops4 : List (HloOp τ sig (Elt F))), op.bufs ⊆ Pipeline.ucRefs τ sig := by
  intro op h
  refine Pipeline.sub_ucRefs op ?_
  simp only [ops4, List.mem_cons, List.not_mem_nil, or_false] at h
  rcases h with rfl; simp

/-- No host operation of @main makes fresh contents. -/
theorem ops_fresh {op : HloOp τ sig (Elt F)} (h : op ∈ ops1 ++ ops2 ++ ops3 ++ ops4) : op.fresh = ∅ := by
  simp only [ops1, ops2, ops3, ops4, List.mem_cons, List.mem_append, List.not_mem_nil, or_false] at h
  rcases h with (((rfl | rfl | rfl) | (rfl | rfl | rfl | rfl)) | (rfl | rfl)) | rfl <;> rfl

/-- The contents the SparseCore call is made at. -/
abbrev PP : (K (F := F)).Pay (nD := nD) (Val := Elt F) (Name := ℕ) (U := UU) :=
  P (fun d => W3 m d (dr main_v5)) (fun d => W3 m d (dr main_v4)) hI (fun d => W3 m d (dr main_v6_0)) (fun d => W3 m d (dr main_v6_1))

/-- What @main leaves the claim: every unscoped buffer at its last contents. -/
abbrev FIN (d : Dev nD) : sProp 𝕄 := held (T d) (Pipeline.ucRefs τ sig) (W7 m hI d)

/-- The SparseCore call between two stretches: the four arrays out of all the buffers, and back with the two results filled. -/
theorem wp_sc (κ : GSem nD τ sig → ℕ) (d : Dev nD) (Φ : PUnit.{1} → sProp 𝕄) :
    iprop((K (F := F)).ctx EH (PP m hI) κ ∗ (K (F := F)).tcSt EH d 0 ∗ held (T d) (Pipeline.ucRefs τ sig) (W3 m d)
        ∗ (((K (F := F)).tcSt EH d 1 ∗ held (T d) (Pipeline.ucRefs τ sig) (W4 m hI d)) -∗ Φ ⟨⟩))
      ⊢ wp frame (wpE ((K (F := F)).defs (D (F := F))) 𝒱 (T d) none) Set.univ ((K (F := F)).run d 0) Φ := by
  rw [StableHlo.held_sub_split (T d) four_sub (W3 m d), StableHlo.held_sub_split (T d) four_sub (W4 m hI d), held_four, held_four,
    held_rest d (W3 m d) (W4 m hI d) (fun b h h' => by unfold W4; rw [Function.update_of_ne h', Function.update_of_ne h])]
  iintro ⟨#Hctx, Hst, ⟨H4, Hr⟩, Hk⟩
  iapply ((K (F := F)).wp_run (D (F := F)) 𝒱 (EH := EH) (P := PP m hI) κ d 0) $$ [Hst H4 Hr Hk]
  isplitr; · iexact Hctx
  isplitl [Hst]; · iexact Hst
  isplitl [H4]
  · rw [st_eq]; iexact H4
  iintro ⟨Hst, Hdn⟩
  ihave Hdn := (Entails.of_eq (dn_eq _ _ _ _ _ d)) $$ Hdn
  iapply Hk
  isplitl [Hst]; · iexact Hst
  isplitl [Hdn]
  · rw [show W4 m hI d (dr main_v5) = W3 m d (dr main_v5) from by unfold W4; rw [Function.update_of_ne (by decide), Function.update_of_ne (by decide)],
      show W4 m hI d (dr main_v4) = W3 m d (dr main_v4) from by unfold W4; rw [Function.update_of_ne (by decide), Function.update_of_ne (by decide)],
      show W4 m hI d (dr main_v6_0) = sumsOf (W3 m d (dr main_v5)) (W3 m d (dr main_v4)) (hI d) from by
        unfold W4; rw [Function.update_of_ne (by decide), Function.update_self],
      show W4 m hI d (dr main_v6_1) = cntsOf (F := F) (W3 m d (dr main_v4)) (hI d) from by unfold W4; rw [Function.update_self]]
    iexact Hdn
  iexact Hr

/-- The host program runs to its end and leaves the last contents. -/
theorem hmain (ρ : Dev nD → PrngReg) (κ : GSem nD τ sig → ℕ) (d : Dev nD) :
    iprop((K (F := F)).ctx EH (PP m hI) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m hI d ∗ (K (F := F)).tcEnd d) := by
  unfold SparseCore.Cfg.tcRes SparseCore.Cfg.tcEnd
  rw [G_eq, main_eq, show unscopedBufs (Ix := HIx 1) (Name := ℕ) (U := UU) (Lvl := ℕ) d (fun b => m ((T d : Thread nD τ).loc b))
    = held (T d) (Pipeline.ucRefs τ sig) (W0 m d) from Pipeline.unscopedBufs_held d (W0 m d)]
  iintro ⟨#Hctx, Hst, ⟨Hb, Hheld, Hts, -⟩, ⟨Hg0, Hg1⟩, Ht0, Ht1⟩
  iapply (StableHlo.wp_seq 𝒱 none Set.univ d (Pipeline.ucRefs τ sig) _ ops1 ops1_sub (fun op h => ops_fresh (by simp [h])) (W0 m d)) $$ [Hb Hheld]
  · isplitl [Hb] <;> iassumption
  iintro ⟨Hb, Hheld⟩
  rw [wp_bind]
  ihave Hs := (tcSt_owes d 0) $$ Hst
  icases Hs with ⟨HO, Hback⟩
  iapply (wp_reg0 κ d 0 (W1 m) (W2 m) (fun c => by unfold W2; rw [Function.update_self]) (fun c b hb => by unfold W2; exact Function.update_of_ne (StableHlo.devRef_ne_of_ne hb) _ _) _)
  isplitr; · iexact Hctx
  isplitl [Hb]; · iexact Hb
  isplitl [Hheld]; · iexact Hheld
  isplitl [HO]; · iexact HO
  isplitl [Hg0]; · iexact Hg0
  isplitl [Ht0]; · iexact Ht0
  iintro ⟨Hb, Hheld, HO⟩
  ihave Hst := Hback $$ HO
  iapply (StableHlo.wp_seq 𝒱 none Set.univ d (Pipeline.ucRefs τ sig) _ ops2 ops2_sub (fun op h => ops_fresh (by simp [h])) (W2 m d)) $$ [Hb Hheld]
  · isplitl [Hb] <;> iassumption
  iintro ⟨Hb, Hheld⟩
  rw [wp_bind]
  iapply (wp_sc m hI κ d _)
  isplitr; · iexact Hctx
  isplitl [Hst]; · iexact Hst
  isplitl [Hheld]; · iexact Hheld
  iintro ⟨Hst, Hheld⟩
  iapply (StableHlo.wp_seq 𝒱 none Set.univ d (Pipeline.ucRefs τ sig) _ ops3 ops3_sub (fun op h => ops_fresh (by simp [h])) (W4 m hI d)) $$ [Hb Hheld]
  · isplitl [Hb] <;> iassumption
  iintro ⟨Hb, Hheld⟩
  rw [wp_bind]
  ihave Hs := (tcSt_owes d 1) $$ Hst
  icases Hs with ⟨HO, Hback⟩
  iapply (wp_reg1 κ d 1 (W5 m hI) (W6 m hI) (fun c => by unfold W6; rw [Function.update_self]) (fun c b hb => by unfold W6; exact Function.update_of_ne (StableHlo.devRef_ne_of_ne hb) _ _) _)
  isplitr; · iexact Hctx
  isplitl [Hb]; · iexact Hb
  isplitl [Hheld]; · iexact Hheld
  isplitl [HO]; · iexact HO
  isplitl [Hg1]; · iexact Hg1
  isplitl [Ht1]; · iexact Ht1
  iintro ⟨Hb, Hheld, HO⟩
  ihave Hst := Hback $$ HO
  rw [← bind_pure (seq ops4)]
  iapply (StableHlo.wp_seq 𝒱 none Set.univ d (Pipeline.ucRefs τ sig) _ ops4 ops4_sub (fun op h => ops_fresh (by simp [h])) (W6 m hI d)) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

/-! ## The run of all the threads -/

/-- The last contents, as a fact about the final memory. -/
def fq (d : Dev nD) (s' : Phys nD τ sig (Elt F)) : Prop := ∀ b ∈ Pipeline.ucRefs τ sig, s'.mem.mem (d, b) = W7 m hI d b

/-- What the TensorCore holds at the end gives that fact. -/
theorem hfin (d : Dev nD) (s' : Phys nD τ sig (Elt F)) : iprop(FIN m hI d ∗ SI s') ⊢ (⌜fq m hI d s'⌝ : sProp 𝕄) :=
  (pointsTo_read_all (Pipeline.ucRefs τ sig) (fun b => (d, b)) (W7 m hI d) s').trans sep_elim_left

/-- Every run ends with every unscoped buffer at its last contents, and every semaphore at zero. -/
theorem run_main (ρ : Dev nD → PrngReg) :
    θ_run (Cert.KernelIdeal.defs (F := F)) (Cert.KernelIdeal.threads (F := F)) ⟨m, fun _ => 0, ρ⟩
      fun r => (∀ c : Dev nD, ∀ b ∈ Pipeline.ucRefs τ sig, r.2.mem (c, b) = W7 m hI c b) ∧ r.2.sem = fun _ => 0 :=
  SparseCore.Cfg.θ_run_sc_quiescent (K := K (F := F)) (D := D (F := F)) (𝒱 := 𝒱) (EH := EH) (P := PP m hI) (A := ∅) facts v₀
    (fun q hq => match q with | 0 => nomatch hq)
    (fun q _ => match q with | 0 => tileObl _ _ _ _ _)
    (fun q _ => match q with | 0 => SparseCore.Cfg.VecSplit.of_plain (vecSplit _ _ _ _ _))
    m ρ main G (FIN m hI) (u₀ (F := F)) (sep_elim_left.trans (hu₀ _ _ _ _ _)) (hmain m hI ρ) (fq m hI) (hfin m hI) _ (fun _ h hz => ⟨h, hz⟩)

end Cert.Proof

end
-- ==== Proof.Pre.lean ====
/-
  What the two preconditions say: every segment word names one of the 512 segments (`segments`, `finite`), and the rows, the
  scales and the weights hold real numbers (`finite`).
-/
module

public import proofs.«01_k».proof.Defs
public import Idealize.ShloMosaic.Lib.ReduceAll
public import Idealize.ShloMosaic.Lib.WordCmp
public import Idealize.ShloMosaic.Lib.IdealHost
public import proofs.«01_k».proof.Proof.Gen.Pre_segments
public import proofs.«01_k».proof.Proof.Gen.Pre_finite

@[expose] public section

noncomputable section

namespace Cert.Proof

open Idealize.ShloMosaic

attribute [local instance] Cert.Pre_segments.Gen.facts Cert.Pre_finite.Gen.facts

/-- A predicate has one index. -/
instance : Subsingleton Cert.Pre_segments.S_.Idx := ⟨fun _ _ => funext fun a => a.elim0⟩

/-- A predicate has one index. -/
instance : Subsingleton Cert.Pre_finite.S_.Idx := ⟨fun _ _ => funext fun a => a.elim0⟩

/-- The elementwise conjunction at an index. -/
theorem and_at {s : Shape} (x y : IVec s 1) (i : s.Idx) : andi x y i = IntOp.andi (x i) (y i) := rfl

/-- A word that is, read signed, at least 0 and below 512 is below 512 read unsigned. -/
theorem word_lt {w : BitVec 32} (h : IntOp.andi (IntOp.cmpi .sge w 0#32) (IntOp.cmpi .slt w 512#32) = 1#1) : w.toNat < 512 := by
  obtain ⟨h1, h2⟩ := IntOp.andi_eq_one.1 h
  have h1 := IntOp.cmpi_sge.1 h1
  have h2 := IntOp.cmpi_slt.1 h2
  have e1 : (0#32 : BitVec 32).toInt = 0 := by decide
  have e2 : (512#32 : BitVec 32).toInt = 512 := by decide
  rw [e1] at h1
  rw [e2] at h2
  have := w.isLt
  rw [BitVec.toInt_eq_toNat_cond] at h1 h2
  split at h1 <;> split at h2 <;> omega

section Words

variable {F : FTy → Type} [FloatOps F]
variable {x : FVec F ⟨2, ![100000, 128]⟩ .f32} {idx : IVec ⟨1, ![100000]⟩ 32} {y : FVec F ⟨2, ![512, 1]⟩ .f32} {g b : FVec F ⟨1, ![128]⟩ .f32} {w : FVec F ⟨2, ![128, 1]⟩ .f32} {bb : FVec F ⟨1, ![1]⟩ .f32}

/-- Under `segments` every segment word is below 512. -/
theorem idx_lt (h : Cert.Pre_segments.fn (F := F) x idx y g b w bb = fun _ => 1#1) (i : Cert.Pre_segments.S100000.Idx) : (idx i).toNat < 512 := by
  have h0 := congrFun h (fun a => a.elim0)
  unfold Cert.Pre_segments.fn at h0
  dsimp only at h0
  exact word_lt (Host.reduce_andi_all _ _ _ _ _ h0 i)

/-- The predicate `finite` at its one index, clause by clause. -/
theorem finite_split (h : Cert.Pre_finite.fn (F := F) x idx y g b w bb = fun _ => 1#1) :
    (∀ i, FloatOps.cmpf .olt (FloatOps.hostAbsf (x i)) (FloatOps.ofBits (F := F) .f32 0x7F800000#32) = 1#1)
    ∧ (∀ i, FloatOps.cmpf .olt (FloatOps.hostAbsf (g i)) (FloatOps.ofBits (F := F) .f32 0x7F800000#32) = 1#1)
    ∧ (∀ i, FloatOps.cmpf .olt (FloatOps.hostAbsf (w i)) (FloatOps.ofBits (F := F) .f32 0x7F800000#32) = 1#1)
    ∧ (∀ i, (idx i).toNat < 512) := by
  have h0 := congrFun h (fun a => a.elim0)
  unfold Cert.Pre_finite.fn Cert.Pre_finite.fn_part1 at h0
  dsimp only at h0
  simp only [and_at, IntOp.andi_eq_one] at h0
  obtain ⟨⟨⟨hx, hg⟩, hw⟩, hi⟩ := h0
  exact ⟨fun i => Host.reduce_andi_all _ _ _ _ _ hx i, fun i => Host.reduce_andi_all _ _ _ _ _ hg i,
    fun i => Host.reduce_andi_all _ _ _ _ _ hw i, fun i => word_lt (Host.reduce_andi_all _ _ _ _ _ hi i)⟩

end Words

/-- An extended real whose absolute value is below the largest is a real number. -/
theorem real_of_olt {v : Ideal .f32} (h : FloatOps.cmpf .olt (FloatOps.hostAbsf v) (FloatOps.ofBits (F := Ideal) .f32 0x7F800000#32) = 1#1) :
    ∃ r : ℝ, (v : EReal) = (r : EReal) := by
  have htop : Ideal.ofBits .f32 0x7F800000#32 = ⊤ := by simp [Ideal.ofBits, Ideal.ieee]
  have h' : Ideal.cmp .olt (max (v : EReal) (-(v : EReal))) (Ideal.ofBits .f32 0x7F800000#32) = 1#1 := h
  rw [htop] at h'
  unfold Ideal.cmp at h'
  have hlt : max (v : EReal) (-(v : EReal)) < ⊤ := by
    by_contra hn
    simp [hn] at h'
  rw [max_lt_iff] at hlt
  refine ⟨EReal.toReal v, (EReal.coe_toReal (ne_of_lt hlt.1) ?_).symm⟩
  intro hb
  rw [hb] at hlt
  simp at hlt

end Cert.Proof

end
-- ==== Proof.Contents.lean ====
/-
  What the buffers hold at the entry of each kernel and at the end, in terms of the launch's memory: the arguments
  throughout, and the arrays that the kernels read.
-/
module

public import proofs.«01_k».proof.Proof.Main
public import proofs.«01_k».proof.Proof.Pre

@[expose] public section

noncomputable section

namespace Cert.Proof

open Cert.KernelIdeal Cert.KernelIdeal.Gen
open Idealize.ShloMosaic
open Idealize.ShloMosaic.TcCoe Idealize.ShloMosaic.Tactic
open Idealize.ShloMosaic.StableHlo (after)

variable {F : FTy → Type} [FloatOps F] [Named F] [∀ e, Nonempty (Elt F e)]

/-! ## One stretch of host operations, over any contents -/

section Lines
variable (V : Valuation τ sig (Elt F))

/-- The first host operations leave the other buffers alone. -/
theorem ops1_other {r : Ref sig .tc} (hr : r ∉ [main_v0, main_v1, main_v2]) : after ops1 V (dr r) = V (dr r) :=
  StableHlo.after_of_writes_sub ops1 V (W := [main_v0, main_v1, main_v2])
    (by simp [ops1, List.Forall, StableHlo.reshape_writes]) hr
/-- The second host operations leave the other buffers alone. -/
theorem ops2_other {r : Ref sig .tc} (hr : r ∉ [main_c, main_call0_v0, main_v4, main_v5]) : after ops2 V (dr r) = V (dr r) :=
  StableHlo.after_of_writes_sub ops2 V (W := [main_c, main_call0_v0, main_v4, main_v5])
    (by simp [ops2, List.Forall, StableHlo.reshape_writes, StableHlo.nullary_writes, StableHlo.TRef.unary, StableHlo.TRef.binary, StableHlo.unary_writes, StableHlo.binary_writes]) hr
/-- The third host operations leave the other buffers alone. -/
theorem ops3_other {r : Ref sig .tc} (hr : r ∉ [main_v7, main_v8]) : after ops3 V (dr r) = V (dr r) :=
  StableHlo.after_of_writes_sub ops3 V (W := [main_v7, main_v8])
    (by simp [ops3, List.Forall, StableHlo.reshape_writes, StableHlo.unary_writes]) hr
/-- The last host operation leaves the other buffers alone. -/
theorem ops4_other {r : Ref sig .tc} (hr : r ∉ [main_v10]) : after ops4 V (dr r) = V (dr r) :=
  StableHlo.after_of_writes_sub ops4 V (W := [main_v10])
    (by simp [ops4, List.Forall, StableHlo.reshape_writes]) hr

/-- The first host operations lay the scales out as a row. -/
theorem ops1_v0 : after ops1 V (dr main_v0) = shapeCast S1x128 (V (dr main_arg3)) shapeCasts_S128_S1x128 := by
  unfold ops1; after_results_simp; rfl
/-- They lay the shifts out as a row. -/
theorem ops1_v1 : after ops1 V (dr main_v1) = shapeCast S1x128 (V (dr main_arg4)) shapeCasts_S128_S1x128 := by
  unfold ops1; after_results_simp; rfl
/-- They lay the weights out as a row. -/
theorem ops1_v2 : after ops1 V (dr main_v2) = shapeCast S1x128 (V (dr main_arg5)) shapeCasts_S128x1_S1x128 := by
  unfold ops1; after_results_simp; rfl
/-- The second host operations pad the segment words. -/
theorem ops2_v4 : after ops2 V (dr main_v4)
    = pad S100352 ![0] ![352] ![0] (V (dr main_arg1) : IVec S100000 32) (constantI S_ 32 512#32) pads_S100000_S100352_03520 h_S_ := by
  unfold ops2; after_results_simp; rfl
/-- They lay the row values out as a vector. -/
theorem ops2_v5 : after ops2 V (dr main_v5) = shapeCast S100352 (V (dr main_v3)) shapeCasts_S100352x1_S100352 := by
  unfold ops2; after_results_simp; rfl
/-- The third host operations spread the bias along a row. -/
theorem ops3_v8 : after ops3 V (dr main_v8)
    = broadcastInDim S1x512 ![0, 1] bcast_S1x1_S1x512_0_1 (shapeCast S1x1 (V (dr main_arg6)) shapeCasts_S1_S1x1) := by
  unfold ops3; after_results_simp; rfl
/-- The last host operation turns the result row into a column. -/
theorem ops4_v10 : after ops4 V (dr main_v10) = shapeCast S512x1 (V (dr main_v9)) shapeCasts_S1x512_S512x1 := by
  unfold ops4; after_results_simp; rfl

end Lines

/-! ## Along the program -/

variable (m : (ℓ : Loc nD τ sig) → Buf (Elt F) ℓ)

/-- After the row-value call the buffers not written so far are as launched. -/
theorem W2_other (d : Dev nD) {r : Ref sig .tc} (h1 : r ∉ [main_v0, main_v1, main_v2]) (h3 : r ≠ main_v3) : W2 m d (dr r) = m (d, dr r) := by
  unfold W2
  rw [Function.update_of_ne (StableHlo.devRef_ne_of_ne h3)]
  exact ops1_other _ h1

/-- The padded segment words that the SparseCore call reads. -/
theorem W3_v4 (d : Dev nD) : W3 m d (dr main_v4)
    = pad S100352 ![0] ![352] ![0] (m (d, dr main_arg1) : IVec S100000 32) (constantI S_ 32 512#32) pads_S100000_S100352_03520 h_S_ := by
  unfold W3
  rw [ops2_v4, W2_other m d (by decide) (by decide)]

/-- The row values that the SparseCore call reads. -/
theorem W3_v5 (d : Dev nD) : W3 m d (dr main_v5)
    = shapeCast S100352 ((dat0 (fam (W1 m)) 0 d).arrAt 3 cfg0.N) shapeCasts_S100352x1_S100352 := by
  unfold W3
  rw [ops2_v5]
  unfold W2
  rw [Function.update_self]

/-- The row-value call finds the rows as launched. -/
theorem W1_x (d : Dev nD) : W1 m d (dr main_arg0) = m (d, dr main_arg0) := ops1_other _ (by decide)
/-- It finds the scales as a row. -/
theorem W1_g (d : Dev nD) : W1 m d (dr main_v0) = shapeCast S1x128 (m (d, dr main_arg3)) shapeCasts_S128_S1x128 := ops1_v0 _
/-- It finds the weights as a row. -/
theorem W1_w (d : Dev nD) : W1 m d (dr main_v2) = shapeCast S1x128 (m (d, dr main_arg5)) shapeCasts_S128x1_S1x128 := ops1_v2 _

variable (hI : Segs m)

/-- The SparseCore call leaves the other buffers alone. -/
theorem W4_other (d : Dev nD) {r : Ref sig .tc} (h2 : r ∉ [main_c, main_call0_v0, main_v4, main_v5]) (h3 : r ≠ main_v3)
    (h6 : r ≠ main_v6_0) (h6' : r ≠ main_v6_1) : W4 m hI d (dr r) = W1 m d (dr r) := by
  unfold W4
  rw [Function.update_of_ne (StableHlo.devRef_ne_of_ne h6'), Function.update_of_ne (StableHlo.devRef_ne_of_ne h6)]
  unfold W3
  rw [ops2_other _ h2]
  unfold W2
  rw [Function.update_of_ne (StableHlo.devRef_ne_of_ne h3)]

/-- The epilogue finds the tiles' sums. -/
theorem W5_s (d : Dev nD) : W5 m hI d (dr main_v6_0) = sumsOf (W3 m d (dr main_v5)) (W3 m d (dr main_v4)) (hI d) := by
  unfold W5
  rw [ops3_other _ (by decide)]
  unfold W4
  rw [Function.update_of_ne (StableHlo.devRef_ne_of_ne (by decide)), Function.update_self]
/-- It finds the tiles' counts. -/
theorem W5_c (d : Dev nD) : W5 m hI d (dr main_v6_1) = cntsOf (F := F) (W3 m d (dr main_v4)) (hI d) := by
  unfold W5
  rw [ops3_other _ (by decide)]
  unfold W4
  rw [Function.update_self]
/-- It finds the shifts as a row. -/
theorem W5_b1 (d : Dev nD) : W5 m hI d (dr main_v1) = shapeCast S1x128 (m (d, dr main_arg4)) shapeCasts_S128_S1x128 := by
  unfold W5
  rw [ops3_other _ (by decide), W4_other m hI d (by decide) (by decide) (by decide) (by decide)]
  exact ops1_v1 _
/-- It finds the weights as a row. -/
theorem W5_w (d : Dev nD) : W5 m hI d (dr main_v2) = shapeCast S1x128 (m (d, dr main_arg5)) shapeCasts_S128x1_S1x128 := by
  unfold W5
  rw [ops3_other _ (by decide), W4_other m hI d (by decide) (by decide) (by decide) (by decide)]
  exact ops1_v2 _
/-- It finds the bias along a row. -/
theorem W5_b (d : Dev nD) : W5 m hI d (dr main_v8)
    = broadcastInDim S1x512 ![0, 1] bcast_S1x1_S1x512_0_1 (shapeCast S1x1 (m (d, dr main_arg6)) shapeCasts_S1_S1x1) := by
  unfold W5
  rw [ops3_v8, W4_other m hI d (by decide) (by decide) (by decide) (by decide)]
  unfold W1
  rw [ops1_other _ (by decide)]
  rfl

/-- The result: the epilogue's array, as a column. -/
theorem W7_v10 (d : Dev nD) : W7 m hI d (dr main_v10)
    = shapeCast S512x1 ((dat1 (fam (W5 m hI)) 1 d).arrAt 5 cfg2.N) shapeCasts_S1x512_S512x1 := by
  unfold W7
  rw [ops4_v10]
  unfold W6
  rw [Function.update_self]

/-- A buffer that no operation writes ends at the launch's contents. -/
theorem W7_kept (d : Dev nD) {r : Ref sig .tc} (h : r ∉ [main_v10, main_v9, main_v7, main_v8, main_v6_0, main_v6_1, main_c, main_call0_v0, main_v4, main_v5,
    main_v3, main_v0, main_v1, main_v2]) : W7 m hI d (dr r) = m (d, dr r) := by
  simp only [List.mem_cons, List.not_mem_nil, or_false, not_or] at h
  obtain ⟨h10, h9, h7, h8, h6, h6', hc, hp, h4, h5, h3, h0, h1, h2⟩ := h
  unfold W7
  rw [ops4_other _ (by simp [h10])]
  unfold W6
  rw [Function.update_of_ne (StableHlo.devRef_ne_of_ne h9)]
  unfold W5
  rw [ops3_other _ (by simp [h7, h8]), W4_other m hI d (by simp [hc, hp, h4, h5]) h3 h6 h6']
  unfold W1
  rw [ops1_other _ (by simp [h0, h1, h2])]
  rfl

/-! ## The segment words are bins -/

/-- Words below 512, padded with 512, are bins of a tile's table. -/
theorem inBins_pad (idx : IVec S100000 32) (h : ∀ i, (idx i).toNat < 512) :
    InBins (pad S100352 ![0] ![352] ![0] idx (constantI S_ 32 512#32) pads_S100000_S100352_03520 h_S_) := by
  intro j
  unfold pad
  split
  · exact lt_trans (h _) (by decide)
  · show (512#32 : BitVec 32).toNat < 528
    decide

/-- If every launched word is below 512, every padded word is a bin. -/
theorem segs_of_lt (h : ∀ d i, ((m (d, dr main_arg1) : IVec S100000 32) i).toNat < 512) : Segs m := fun d => by
  rw [W3_v4]
  exact inBins_pad _ (h d)

/-! ## The run, at the arguments and the result -/

/-- A buffer that no call allocates for itself is among those held throughout. -/
theorem mem_uc {r : Ref sig .tc} (h : (dr r : DevRef τ sig).isScoped = false) : dr r ∈ Pipeline.ucRefs τ sig :=
  Finset.mem_filter.mpr ⟨Finset.mem_map.mpr ⟨_, Finset.mem_univ _, rfl⟩, by rw [h]; decide⟩

/-- Every execution ends with the arguments unchanged, the result at what the epilogue leaves, and every semaphore at rest. -/
theorem run_ends (ρ : Dev nD → PrngReg) :
    θ_run (Cert.KernelIdeal.defs (F := F)) (Cert.KernelIdeal.threads (F := F)) ⟨m, fun _ => 0, ρ⟩
      fun r => (∀ c : Dev nD,
        r.2.mem ((c.tc : Thread nD τ).loc main_v10) = shapeCast S512x1 ((dat1 (fam (W5 m hI)) 1 c).arrAt 5 cfg2.N) shapeCasts_S1x512_S512x1
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) ∧ r.2.sem = fun _ => 0 := by
  refine (θ_run _ _ _).mono (fun r h => ⟨fun c => ?_, h.2⟩) (run_main m hI ρ)
  have hk : ∀ {b : Ref sig .tc}, (dr b : DevRef τ sig).isScoped = false →
      b ∉ [main_v10, main_v9, main_v7, main_v8, main_v6_0, main_v6_1, main_c, main_call0_v0, main_v4, main_v5, main_v3, main_v0, main_v1, main_v2] →
      r.2.mem ((c.tc : Thread nD τ).loc b) = m ((c.tc : Thread nD τ).loc b) := fun {b} hu hb => (h.1 c _ (mem_uc hu)).trans (W7_kept m hI c hb)
  exact ⟨(h.1 c _ (mem_uc (by decide))).trans (W7_v10 m hI c), hk (by decide) (by decide), hk (by decide) (by decide), hk (by decide) (by decide),
    hk (by decide) (by decide), hk (by decide) (by decide), hk (by decide) (by decide), hk (by decide) (by decide)⟩

end Cert.Proof

end
-- ==== Proof.Frames.lean ====
/-
  The frames of the idealized kernel and of the reference, and the one named constant.
-/
module

public import proofs.«01_k».proof.Proof.Contents
public import proofs.«01_k».proof.Proof.Gen.ReferenceIdeal.Run
public import Idealize.ShloMosaic.Lib.Quiescent

@[expose] public section

noncomputable section

namespace Cert.Proof

open Idealize.ShloMosaic Idealize.SL.Sem
open Idealize.ShloMosaic.TcCoe

attribute [local instance] Cert.Pre_segments.Gen.facts Cert.Pre_finite.Gen.facts Cert.KernelIdeal.Gen.facts Cert.ReferenceIdeal.Gen.facts

/-- Under `segments` every padded segment word of the idealized kernel's run is a bin. -/
theorem segs_ideal {m : (ℓ : Loc Cert.KernelIdeal.nD Cert.KernelIdeal.τ Cert.KernelIdeal.sig) → Buf (Elt Ideal) ℓ}
    (h : Cert.Pre_KernelIdeal m) : Segs m :=
  segs_of_lt m fun d i => idx_lt (h d) i

/-- Under `finite` too. -/
theorem segs_finite {m : (ℓ : Loc Cert.KernelIdeal.nD Cert.KernelIdeal.τ Cert.KernelIdeal.sig) → Buf (Elt Ideal) ℓ}
    (h : Cert.Pre_KernelIdeal_finite m) : Segs m :=
  segs_of_lt m fun d i => (finite_split (h d)).2.2.2 i

/-- The idealized kernel runs, keeps its arguments and leaves every semaphore at rest. -/
theorem frame_kernelIdeal : Cert.quiescent_KernelIdeal := fun m g h =>
  (θ_run _ _ _).mono (fun _ hr => ⟨fun c => (hr.1 c).2, hr.2⟩) (run_ends m (segs_ideal h) g)

/-- The same under `finite`. -/
theorem frame_kernelIdeal_finite : Cert.quiescent_KernelIdeal_pre_finite := fun m g h =>
  (θ_run _ _ _).mono (fun _ hr => ⟨fun c => (hr.1 c).2, hr.2⟩) (run_ends m (segs_finite h) g)

/-- The reference runs, keeps its arguments and leaves every semaphore at rest. -/
theorem frame_reference : Cert.quiescent_ReferenceIdeal := fun m g _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- The same under `finite`. -/
theorem frame_reference_finite : Cert.quiescent_ReferenceIdeal_pre_finite := fun m g _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- The constant printed for the square root of 128 is named as that real number. -/
theorem named_sqrt : Cert.preserves_Kernel_KernelIdeal :=
  IdealRules.named_const.statement Cert.KernelIdeal.κ "sqrt_d" .f32 0x413504F3#32 ((Real.sqrt 128 : ℝ) : EReal) rfl

end Cert.Proof

end
-- ==== Proof.FrameBits.lean ====
/-
  The frame of the kernel as printed: the idealized kernel's program is the printed one's where its named constant is read
  as the constant's bits, so that the run proved over every instance of the floats is the printed kernel's.
-/
module

public import proofs.«01_k».proof.Proof.Contents
public import proofs.«01_k».proof.Proof.Gen.Kernel

@[expose] public section

noncomputable section

namespace Cert.Proof

open Idealize.ShloMosaic Idealize.SL.Sem
open Idealize.ShloMosaic.TcCoe

attribute [local instance] Cert.Pre_segments.Gen.facts Cert.KernelIdeal.Gen.facts Cert.Kernel.Gen.facts

/-- A named constant at the machine's floats is the constant of its bits. -/
local instance namedBits : Named Bits where
  named _ _ {φ} bits := FloatOps.ofBits φ bits

/-- The two programs have the same buffers. -/
theorem sig_same : Cert.KernelIdeal.sig = Cert.Kernel.sig := rfl

/-- The epilogue is the same function. -/
theorem cc2_same : @Cert.KernelIdeal.cc2__epilogue_body Bits _ _ = @Cert.Kernel.cc2__epilogue_body Bits _ _ := rfl

/-- The row-value kernel is the same function at these floats. -/
theorem cc0_same : @Cert.KernelIdeal.cc0__rowval_body Bits _ _ _ = @Cert.Kernel.cc0__rowval_body Bits _ _ := rfl

/-- The SparseCore kernel is the same function. -/
theorem cc1_same : @Cert.KernelIdeal.cc1__sc_seg_body Bits _ _ = @Cert.Kernel.cc1__sc_seg_body Bits _ _ := rfl

set_option maxHeartbeats 2000000 in
/-- The kernels' bodies are the same. -/
theorem defs₀_same : (Cert.KernelIdeal.defs₀ (F := Bits)) = Cert.Kernel.defs₀ (F := Bits) := by
  funext p l a
  rcases l with ⟨l, hl⟩
  rcases p with _ | c | ⟨c, s⟩
  · rcases l with _ | _ | _ | l
    · rfl
    · rfl
    · rfl
    · exact absurd hl (by omega)
  · rcases l with _ | _ | _ | l
    · rfl
    · rfl
    · rfl
    · exact absurd hl (by omega)
  · rcases l with _ | _ | _ | l
    · rfl
    · rfl
    · rfl
    · exact absurd hl (by omega)

set_option maxHeartbeats 2000000 in
/-- The row-value kernel's pipeline is the same. -/
theorem cfg0_same : Cert.KernelIdeal.cfg0 = Cert.Kernel.cfg0 := rfl

set_option maxHeartbeats 2000000 in
/-- The epilogue's pipeline is the same. -/
theorem cfg2_same : Cert.KernelIdeal.cfg2 = Cert.Kernel.cfg2 := rfl

set_option maxHeartbeats 2000000 in
/-- So are the pipelines. -/
theorem pcfgs_same : Cert.KernelIdeal.pcfgs (F := Bits) = Cert.Kernel.pcfgs (F := Bits) := rfl

set_option maxHeartbeats 2000000 in
/-- So is the SparseCore call. -/
theorem sc_same : Cert.KernelIdeal.sc (F := Bits) = Cert.Kernel.sc (F := Bits) := rfl

set_option maxHeartbeats 2000000 in
/-- The body tables are the same. -/
theorem defs_same : Cert.KernelIdeal.defs (F := Bits) = Cert.Kernel.defs (F := Bits) :=
  congrArg (fun x => Cert.KernelIdeal.sc.defs (Pipeline.defs Cert.KernelIdeal.pcfgs x)) defs₀_same

set_option maxHeartbeats 2000000 in
/-- The TensorCore's program is the same. -/
theorem main_same : Cert.KernelIdeal.main (F := Bits) = Cert.Kernel.main (F := Bits) := rfl

set_option maxHeartbeats 2000000 in
/-- The threads are the same. -/
theorem threads_same : Cert.KernelIdeal.threads (F := Bits) = Cert.Kernel.threads (F := Bits) :=
  congrArg (fun x => Cert.KernelIdeal.sc.threads x) main_same

set_option maxHeartbeats 2000000 in
/-- A run of the one program is a run of the other. -/
theorem run_same (s : MemSt Cert.Kernel.nD Cert.Kernel.τ Cert.Kernel.sig (Elt Bits)) (P : _ → Prop)
    (h : θ_run (Cert.KernelIdeal.defs (F := Bits)) (Cert.KernelIdeal.threads (F := Bits)) s P) :
    θ_run (Cert.Kernel.defs (F := Bits)) (Cert.Kernel.threads (F := Bits)) s P := by
  have e1 := congrArg (fun D => θ_run D (Cert.Kernel.threads (F := Bits)) s P) defs_same
  have e2 := congrArg (fun T => θ_run (Cert.KernelIdeal.defs (F := Bits)) T s P) threads_same
  exact e1.mp (e2.mp h)

set_option maxHeartbeats 2000000 in
/-- The kernel runs, keeps its arguments and leaves every semaphore at rest. -/
theorem frame_kernel : Cert.quiescent_Kernel := fun m g h => by
  have hs : Segs (F := Bits) m := segs_of_lt (F := Bits) m fun d i => idx_lt (h d) i
  refine run_same _ _ ?_
  exact (θ_run (Cert.KernelIdeal.defs (F := Bits)) (Cert.KernelIdeal.threads (F := Bits)) _).mono (fun _ hr => ⟨fun c => (hr.1 c).2, hr.2⟩) (run_ends (F := Bits) m hs g)

end Cert.Proof

end
-- ==== Proof.Bins.lean ====
/-
  The tables of the SparseCore call over the extended reals: a bin's sum, over all tiles, is the sum of the row values
  whose segment word names the bin, and its count the sum of as many ones.
-/
module

public import proofs.«01_k».proof.Proof.TileBody
public import Idealize.ShloMosaic.Lib.Pointwise

@[expose] public section

noncomputable section

namespace Cert.Proof

open Cert.KernelIdeal Cert.KernelIdeal.Gen
open Idealize.ShloMosaic

/-! ## One store -/

/-- Adding lane after lane to an entry adds the lanes that name it. -/
theorem foldl_add {N : ℕ} (L : List (Fin N)) (j : S528.Idx) (P : Fin N → S528.Idx → Prop) [∀ k j, Decidable (P k j)] (i : Fin N → S528.Idx)
    (hi : ∀ k, P k j → i k = j) (v : Fin N → EReal) (f : S528.Idx → EReal) :
    L.foldl (fun g k => fun j => if P k j then g (i k) + v k else g j) f j = f j + (L.map fun k => if P k j then v k else 0).sum := by
  induction L generalizing f with
  | nil => simp
  | cons k L ih =>
    rw [List.foldl_cons, ih, List.map_cons, List.sum_cons, ← add_assoc]
    congr 1
    by_cases h : P k j
    · rw [if_pos h, if_pos h, hi k h]
    · rw [if_neg h, if_neg h, add_zero]

/-- An entry of a table after one indexed store with add of sixteen lanes. -/
theorem storeIdx_apply (f : Vec Ideal S528 .f32) (ix : IVec S16 32) (v : Vec Ideal S16 .f32)
    (h : ∀ a x, ((![ix] : Fin 1 → IVec S16 32) a x).toNat < S528.size a) (j : S528.Idx) :
    storeIdx (F := Ideal) (e := .f32) f (![ix] : Fin 1 → IVec S16 32) v (fun _ => 1#1) true h j
      = (f j + ∑ k : Fin 16, if (ix (ix1 k)).toNat = (j 0).val then v (ix1 k) else 0 : EReal) := by
  have hl : ∀ k : Fin 16, (Shape.ofLane (d := ![16]) k : S16.Idx) = ix1 k := fun k => by
    funext a; obtain rfl : a = 0 := Subsingleton.elim _ _; rfl
  have e := foldl_add (List.finRange 16) j (fun k j => ∀ a, (j a).val = (idxAt (s := S528) (![ix] : Fin 1 → IVec S16 32) h (ix1 k) a).val)
    (fun k => idxAt (s := S528) (![ix] : Fin 1 → IVec S16 32) h (ix1 k))
    (fun k hk => funext fun a => Fin.ext (hk a).symm) (fun k => v (ix1 k)) f
  refine Eq.trans ?_ (e.trans ?_)
  · refine congrFun (congrArg (fun G => List.foldl G f (List.finRange 16)) (funext₂ fun g k => funext fun j => ?_)) j
    dsimp only
    rw [hl k, if_pos (show (1#1 : BitVec 1) = 1 from rfl), if_pos rfl]
    by_cases q : ∀ a : Fin 1, (j a).val = (idxAt (s := S528) (![ix] : Fin 1 → IVec S16 32) h (ix1 k) a).val
    · exact (if_pos q).trans (if_pos q).symm
    · exact (if_neg q).trans (if_neg q).symm
  · congr 1
    rw [← List.ofFn_eq_map, List.sum_ofFn]
    refine Finset.sum_congr rfl fun k _ => if_congr ?_ rfl rfl
    constructor
    · intro q; exact (q 0).symm
    · intro q a; obtain rfl : a = 0 := Subsingleton.elim _ _; exact q.symm

/-! ## Sums over ranges -/

/-- A sum over a range, block by block. -/
theorem sum_range_blocks {M : Type} [AddCommMonoid M] (a b : ℕ) (f : ℕ → M) :
    ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

/-! ## One tile's tables -/

/-- What element `n` of the vectors adds to bin `b`. -/
def term (R : Vec Ideal S100352 .f32) (I : IVec S100352 32) (b n : ℕ) : EReal :=
  if h : n < 100352 then (if (I (ix1 ⟨n, h⟩)).toNat = b then R (ix1 ⟨n, h⟩) else 0) else 0

/-- A lane of a trip of a tile is an element of the vectors. -/
theorem lane_lt (L : grid1.Coords) (t : Fin k1_t2_loop.trips) (k : Fin 16) : tileNo L * 3136 + (t.val * 16 + k.val) < 100352 := by
  have := tileNo_lt L
  have ht : t.val < 196 := lt_of_lt_of_eq t.isLt trips2
  omega

/-- The row value that a lane of a trip of a tile reads. -/
theorem rvVec_apply (L : grid1.Coords) (R : Vec Ideal S100352 .f32) (t : Fin k1_t2_loop.trips) (k : Fin 16) :
    rvVec (F := Ideal) (tileR L R) t (ix1 k) = R (ix1 ⟨tileNo L * 3136 + (t.val * 16 + k.val), lane_lt L t k⟩) := by
  show R _ = R _
  congr 1
  funext (a : Fin 1); obtain rfl : a = 0 := Subsingleton.elim _ _
  apply Fin.ext
  show k1_off1 L 0 + 1 * (k1_off3 t 0 + 1 * k.val) = tileNo L * 3136 + (t.val * 16 + k.val)
  rw [k1_off1_eq, k1_off3_eq]
  unfold tileNo
  simp
  omega

/-- The segment word that a lane of a trip of a tile reads. -/
theorem ixVec_apply (L : grid1.Coords) (I : IVec S100352 32) (t : Fin k1_t2_loop.trips) (k : Fin 16) :
    ixVec (F := Ideal) (tileI (F := Ideal) L I) t (ix1 k) = I (ix1 ⟨tileNo L * 3136 + (t.val * 16 + k.val), lane_lt L t k⟩) := by
  show I _ = I _
  congr 1
  funext (a : Fin 1); obtain rfl : a = 0 := Subsingleton.elim _ _
  apply Fin.ext
  show k1_off1 L 0 + 1 * (k1_off3 t 0 + 1 * k.val) = tileNo L * 3136 + (t.val * 16 + k.val)
  rw [k1_off1_eq, k1_off3_eq]
  unfold tileNo
  simp
  omega

/-- A vector of ones. -/
def ones : Vec Ideal S100352 .f32 := fun _ => (1 : EReal)

/-- A tile's table of sums after `n` trips. -/
theorem accS_apply (L : grid1.Coords) (R : Vec Ideal S100352 .f32) (I : IVec S100352 32)
    (h : ∀ t, k1_chk1 (ixVec (F := Ideal) (tileI (F := Ideal) L I) t)) (j : S528.Idx) (n : ℕ) (hn : n ≤ 196) :
    accS (F := Ideal) (tileR L R) (tileI (F := Ideal) L I) h n j
      = (∑ t ∈ Finset.range n, ∑ k ∈ Finset.range 16, term R I (j 0).val (tileNo L * 3136 + (t * 16 + k)) : EReal) := by
  induction n with
  | zero => rw [Finset.range_zero, Finset.sum_empty]; exact Ideal.ofBits_zero_f32
  | succ n ih =>
    have ht : n < k1_t2_loop.trips := by rw [trips2]; omega
    rw [Finset.sum_range_succ, ← ih (by omega)]
    rw [accS, dif_pos ht, storeIdx_apply]
    congr 1
    rw [Finset.sum_range]
    refine Finset.sum_congr rfl fun k _ => ?_
    rw [rvVec_apply, ixVec_apply]
    unfold term
    rw [dif_pos (lane_lt L ⟨n, ht⟩ k)]

/-- A tile's table of counts after `n` trips. -/
theorem accC_apply (L : grid1.Coords) (I : IVec S100352 32)
    (h : ∀ t, k1_chk1 (ixVec (F := Ideal) (tileI (F := Ideal) L I) t)) (j : S528.Idx) (n : ℕ) (hn : n ≤ 196) :
    accC (F := Ideal) (tileI (F := Ideal) L I) h n j
      = (∑ t ∈ Finset.range n, ∑ k ∈ Finset.range 16, term ones I (j 0).val (tileNo L * 3136 + (t * 16 + k)) : EReal) := by
  induction n with
  | zero => rw [Finset.range_zero, Finset.sum_empty]; exact Ideal.ofBits_zero_f32
  | succ n ih =>
    have ht : n < k1_t2_loop.trips := by rw [trips2]; omega
    rw [Finset.sum_range_succ, ← ih (by omega)]
    rw [accC, dif_pos ht, storeIdx_apply]
    congr 1
    rw [Finset.sum_range]
    refine Finset.sum_congr rfl fun k _ => ?_
    rw [ixVec_apply]
    unfold term
    rw [dif_pos (lane_lt L ⟨n, ht⟩ k)]
    have e : (k1_pay2 (F := Ideal)) (ix1 k) = (1 : EReal) := by
      show Ideal.ofBits .f32 0x3F800000#32 = 1
      pointwise
    rw [e]
    rfl

/-! ## All tiles -/

/-- The tile at the coordinates of tile `n` has number `n`. -/
theorem tileNo_coordsOf (n : Fin 32) : tileNo (coordsOf n) = n.val := by
  show 2 * (n.val / 2) + n.val % 2 = n.val
  omega

/-- The sum of a column of the tiles' sums. -/
theorem sumsOf_col (R : Vec Ideal S100352 .f32) (I : IVec S100352 32) (hI : InBins I) (b : Fin 512) :
    (∑ n : Fin 32, sumsOf (F := Ideal) R I hI (ix2 n b) : EReal) = ∑ n ∈ Finset.range 100352, term R I b.val n := by
  rw [show 100352 = 32 * 3136 from rfl, sum_range_blocks, Finset.sum_range]
  refine Finset.sum_congr rfl fun n _ => ?_
  rw [show 3136 = 196 * 16 from rfl, sum_range_blocks]
  refine (accS_apply (coordsOf n) R I (chk_of_inBins hI _) (binOf (ix2 n b)) 196 le_rfl).trans ?_
  rw [tileNo_coordsOf]
  rfl

/-- The sum of a column of the tiles' counts. -/
theorem cntsOf_col (I : IVec S100352 32) (hI : InBins I) (b : Fin 512) :
    (∑ n : Fin 32, cntsOf (F := Ideal) I hI (ix2 n b) : EReal) = ∑ n ∈ Finset.range 100352, term ones I b.val n := by
  rw [show 100352 = 32 * 3136 from rfl, sum_range_blocks, Finset.sum_range]
  refine Finset.sum_congr rfl fun n _ => ?_
  rw [show 3136 = 196 * 16 from rfl, sum_range_blocks]
  refine (accC_apply (coordsOf n) I (chk_of_inBins hI _) (binOf (ix2 n b)) 196 le_rfl).trans ?_
  rw [tileNo_coordsOf]
  rfl

/-- Elements from 100000 on, whose segment word names no bin below 512, add nothing. -/
theorem sum_term (R : Vec Ideal S100352 .f32) (I : IVec S100352 32) (b : ℕ)
    (hpad : ∀ n (h : n < 100352), 100000 ≤ n → (I (ix1 ⟨n, h⟩)).toNat ≠ b) :
    ∑ n ∈ Finset.range 100352, term R I b n
      = ∑ i : Fin 100000, if (I (ix1 ⟨i.val, by omega⟩)).toNat = b then R (ix1 ⟨i.val, by omega⟩) else 0 := by
  have e : ∑ n ∈ Finset.range 100352, term R I b n = _ := Finset.sum_range_add (term R I b) 100000 352
  rw [e,
    Finset.sum_eq_zero (s := Finset.range 352) fun n hn => by
      unfold term
      split
      · next h => exact if_neg (hpad _ h (by omega))
      · rfl, add_zero, Finset.sum_range]
  refine Finset.sum_congr rfl fun i _ => ?_
  unfold term
  rw [dif_pos (by omega)]

end Cert.Proof

end
-- ==== Proof.RowMath.lean ====
/-
  The row value over the real numbers: the kernel's form, three sums over the row and one reciprocal root, is the
  weighted sum of the normalised row.
-/
module

public import Idealize.ShloMosaic.PureOps.Ideal
public import Mathlib.Tactic.Ring
public import Mathlib.Tactic.FieldSimp

@[expose] public section

noncomputable section

namespace Cert.Proof

/-- The number added to the variance. -/
def eps : ℝ := 10995116 / 2 ^ 40

/-- The stabiliser is positive. -/
theorem eps_pos : 0 < eps := by unfold eps; positivity

/-- The mean of a row. -/
def mean (x : Fin 128 → ℝ) : ℝ := (∑ k, x k) * (1 / 128)
/-- The variance of a row. -/
def var (x : Fin 128 → ℝ) : ℝ := (∑ k, (x k - mean x) * (x k - mean x)) * (1 / 128)
/-- A row's entry, normalised. -/
def norm (x : Fin 128 → ℝ) (k : Fin 128) : ℝ := (x k - mean x) * (1 / Real.sqrt (var x + eps))
/-- The weighted sum of a normalised row. -/
def rowVal (x g w : Fin 128 → ℝ) : ℝ := ∑ k, norm x k * g k * w k

/-- A variance is not negative. -/
theorem var_nonneg (x : Fin 128 → ℝ) : 0 ≤ var x :=
  mul_nonneg (Finset.sum_nonneg fun k _ => mul_self_nonneg _) (by norm_num)

/-- A variance and the stabiliser together are positive. -/
theorem var_eps_pos (x : Fin 128 → ℝ) : 0 < var x + eps := add_pos_of_nonneg_of_pos (var_nonneg x) eps_pos

/-- The sum of squares less the square of the sum over 128, and 128 times the added number, is 128 times the variance and the added number. -/
theorem spread_eq (x : Fin 128 → ℝ) :
    (∑ k, x k * x k) - (∑ k, x k) * (∑ k, x k) * (1 / 128) + 128 * eps = 128 * (var x + eps) := by
  have h : ∑ k, (x k - mean x) * (x k - mean x) = (∑ k, x k * x k) - 2 * mean x * (∑ k, x k) + 128 * (mean x * mean x) := by
    have : ∀ k, (x k - mean x) * (x k - mean x) = x k * x k - 2 * mean x * x k + mean x * mean x := fun k => by ring
    simp only [this, Finset.sum_add_distrib, Finset.sum_sub_distrib, ← Finset.mul_sum, Finset.sum_const, Finset.card_univ, Fintype.card_fin,
      nsmul_eq_mul]
    push_cast
    ring
  unfold var
  rw [h]
  unfold mean
  ring

/-- The kernel's form of the row value. -/
theorem rowVal_eq (x g w : Fin 128 → ℝ) :
    (∑ k, x k * ((g k * w k - (∑ j, g j * w j) * (1 / 128)) * Real.sqrt 128))
        * (Real.sqrt ((∑ k, x k * x k) - (∑ k, x k) * (∑ k, x k) * (1 / 128) + 128 * eps))⁻¹
      = rowVal x g w := by
  rw [spread_eq, Real.sqrt_mul (by norm_num)]
  have hD : Real.sqrt 128 ≠ 0 := (Real.sqrt_pos.2 (by norm_num)).ne'
  have hV : Real.sqrt (var x + eps) ≠ 0 := (Real.sqrt_pos.2 (var_eps_pos x)).ne'
  have h1 : ∑ k, x k * ((g k * w k - (∑ j, g j * w j) * (1 / 128)) * Real.sqrt 128)
      = Real.sqrt 128 * ∑ k, (x k - mean x) * (g k * w k) := by
    have a : ∀ k, x k * ((g k * w k - (∑ j, g j * w j) * (1 / 128)) * Real.sqrt 128)
        = Real.sqrt 128 * (x k * (g k * w k)) - (Real.sqrt 128 * ((∑ j, g j * w j) * (1 / 128))) * x k := fun k => by ring
    have b : ∀ k, (x k - mean x) * (g k * w k) = x k * (g k * w k) - mean x * (g k * w k) := fun k => by ring
    simp only [a, b, Finset.sum_sub_distrib, ← Finset.mul_sum]
    unfold mean
    ring
  have h2 : rowVal x g w = (Real.sqrt (var x + eps))⁻¹ * ∑ k, (x k - mean x) * (g k * w k) := by
    unfold rowVal norm
    rw [Finset.mul_sum]
    exact Finset.sum_congr rfl fun k _ => by ring
  rw [h1, h2]
  field_simp

end Cert.Proof

end
-- ==== Proof.RowValue.lean ====
/-
  The row value that the first kernel's block holds, over the extended reals, for real inputs.
-/
module

public import proofs.«01_k».proof.Proof.Gen.KernelIdeal.Skeleton
public import proofs.«01_k».proof.Proof.RowMath
public import Idealize.ShloMosaic.Lib.Pointwise

@[expose] public section

noncomputable section

namespace Cert.Proof

open Cert.KernelIdeal Cert.KernelIdeal.Gen
open Idealize.ShloMosaic

/-- The word of 1/128. -/
theorem bits_inv128 : Ideal.ofBits .f32 0x3C000000#32 = ((1 / 128 : ℝ) : EReal) := by
  simp [Ideal.ofBits, Ideal.ieee]
  rw [← EReal.coe_mul]
  norm_num
/-- The word of 128. -/
theorem bits_128 : Ideal.ofBits .f32 0x43000000#32 = ((128 : ℝ) : EReal) := by
  simp [Ideal.ofBits, Ideal.ieee]
  rw [← EReal.coe_mul]
  norm_num
/-- The word of the stabiliser. -/
theorem bits_eps : Ideal.ofBits .f32 0x3727C5AC#32 = (eps : EReal) := by
  unfold eps
  simp [Ideal.ofBits, Ideal.ieee]
  rw [← EReal.coe_mul]
  norm_num
/-- The word of 128 times the stabiliser. -/
theorem bits_eps128 : Ideal.ofBits .f32 0x3AA7C5AC#32 = ((128 * eps : ℝ) : EReal) := by
  unfold eps
  simp [Ideal.ofBits, Ideal.ieee]
  rw [← EReal.coe_mul, ← EReal.coe_mul]
  exact congrArg _ (by norm_num)

/-- The named constant is the square root of 128. -/
theorem named_sqrt_d : (Named.named κ "sqrt_d" 0x413504F3#32 : Ideal .f32) = ((Real.sqrt 128 : ℝ) : EReal) := rfl

/-- A finite sum of real numbers, read in the extended reals. -/
theorem coe_sum {ι : Type} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

/-- The first kernel's block at a row, for real inputs, is the row's value. -/
theorem k0_read (v0 : Vec Ideal S2000x128 .f32) (v1 v3 : Vec Ideal S1x128 .f32) (p : Fin 2000) (q : Fin 1) (x g w : Fin 128 → ℝ)
    (hx : ∀ k, v0 (ix2 p k) = (x k : EReal)) (hg : ∀ k, v1 (ix2 0 k) = (g k : EReal)) (hw : ∀ k, v3 (ix2 0 k) = (w k : EReal)) :
    k0_pay1 (F := Ideal) v0 v1 v3 (ix2 p q) = (rowVal x g w : EReal) := by
  pointwise [k0_pay1]
  simp only [hx, hg, hw, bits_inv128, bits_eps128, named_sqrt_d, ← EReal.coe_mul, ← EReal.coe_sub, ← EReal.coe_add, ← coe_sum,
    Finset.univ_unique, Finset.sum_singleton]
  rw [Ideal.rsqrt_coe, spread_eq, if_neg (by have := var_eps_pos x; push Not; positivity), if_neg (by have := var_eps_pos x; positivity),
    ← EReal.coe_mul, ← rowVal_eq, spread_eq]

end Cert.Proof

end
-- ==== Proof.Arrays.lean ====
/-
  The arrays that the two TensorCore kernels leave, element by element: the row values, and the result of the epilogue.
-/
module

public import proofs.«01_k».proof.Proof.Bodies
public import proofs.«01_k».proof.Proof.RowValue
public import Idealize.ShloMosaic.Lib.Pipeline.ValueKit
public import Idealize.ShloMosaic.Lib.Pointwise

@[expose] public section

noncomputable section

namespace Cert.Proof

open Cert.KernelIdeal Cert.KernelIdeal.Gen
open Idealize.ShloMosaic
open Idealize.ShloMosaic.TcCoe Idealize.ShloMosaic.Tactic

variable (V : (c : Dev nD) → (b : Ref sig .tc) → Buf (Elt Ideal) ((c : Thread nD τ).loc b))

/-- The block of rows at a grid point is the point's. -/
theorem index0_0 : ∀ t : Fin cfg0.N, win0_0.index t = ![t.val, 0] := by decide +kernel
/-- The block of scales is the one block there is. -/
theorem index0_1 : ∀ t : Fin cfg0.N, win0_1.index t = ![0, 0] := by decide +kernel
/-- The block of weights is the one block there is. -/
theorem index0_2 : ∀ t : Fin cfg0.N, win0_2.index t = ![0, 0] := by decide +kernel
/-- The block of row values at a grid point is the point's. -/
theorem index0_3 : ∀ t : Fin cfg0.N, win0_3.index t = ![t.val, 0] := by decide +kernel

/-- A row of a grid point's block is a row of the array. -/
theorem point_lt (t : Fin cfg0.N) (p : Fin 2000) : t.val * 2000 + p.val < 100000 := by
  have ht : t.val < 50 := lt_of_lt_of_eq t.isLt (by decide +kernel)
  omega

/-- An entry of a grid point's block of rows. -/
theorem blkX_apply (c : Dev nD) (t : Fin cfg0.N) (p : Fin 2000) (k : Fin 128) :
    blkX V c t (ix2 p k) = (V c main_arg0 : Vec Ideal S100000x128 .f32) (ix2 ⟨t.val * 2000 + p.val, point_lt t p⟩ k) := by
  show (V c main_arg0 : Vec Ideal S100000x128 .f32) (((cfg0.win 0).blk t).view.emb (ix2 p k)) = _
  blk_ext [index0_0 t]
/-- An entry of the staged scales. -/
theorem blkG_apply (c : Dev nD) (t : Fin cfg0.N) (k : Fin 128) :
    blkG V c t (ix2 0 k) = (V c main_v0 : Vec Ideal S1x128 .f32) (ix2 0 k) := by
  show (V c main_v0 : Vec Ideal S1x128 .f32) (((cfg0.win 1).blk t).view.emb (ix2 0 k)) = _
  blk_ext [index0_1 t]
/-- An entry of the staged weights. -/
theorem blkW_apply (c : Dev nD) (t : Fin cfg0.N) (k : Fin 128) :
    blkW V c t (ix2 0 k) = (V c main_v2 : Vec Ideal S1x128 .f32) (ix2 0 k) := by
  show (V c main_v2 : Vec Ideal S1x128 .f32) (((cfg0.win 2).blk t).view.emb (ix2 0 k)) = _
  blk_ext [index0_2 t]

/-- The row values, on the rows that the blocks cover. -/
def rowsG (X : Fin 100000 → Fin 128 → ℝ) (g w : Fin 128 → ℝ) : Vec Ideal S100352x1 .f32 := fun j =>
  if h : (j 0).val < 100000 then (rowVal (X ⟨(j 0).val, h⟩) g w : EReal) else (0 : EReal)

/-- At a row of the array the row-value kernel's result is that row's value. -/
theorem rowsG_apply (X : Fin 100000 → Fin 128 → ℝ) (g w : Fin 128 → ℝ) (j : S100352x1.Idx) (i : Fin 100000) (h : (j 0).val = i.val) :
    rowsG X g w j = (rowVal (X i) g w : EReal) := by
  have hl : (j 0).val < 100000 := h ▸ i.isLt
  have e : (⟨(j 0).val, hl⟩ : Fin 100000) = i := Fin.ext h
  unfold rowsG
  rw [dif_pos hl, e]

/-- The array of row values after the first kernel holds, at a row below 100000, the row's value. -/
theorem rows_apply (n : ℕ) (c : Dev nD) (X : Fin 100000 → Fin 128 → ℝ) (g w : Fin 128 → ℝ)
    (hX : ∀ i k, (V c main_arg0 : Vec Ideal S100000x128 .f32) (ix2 i k) = (X i k : EReal))
    (hg : ∀ k, (V c main_v0 : Vec Ideal S1x128 .f32) (ix2 0 k) = (g k : EReal))
    (hw : ∀ k, (V c main_v2 : Vec Ideal S1x128 .f32) (ix2 0 k) = (w k : EReal)) (i : Fin 100000) :
    ((dat0 (F := Ideal) V n c).arrAt 3 cfg0.N : Vec Ideal S100352x1 .f32) (ix2 ⟨i.val, by omega⟩ 0) = (rowVal (X i) g w : EReal) := by
  refine ((dat0 (F := Ideal) V n c).arrAt_apply_of_coversWhere 3
    (rowsG X g w)
    (P := fun j : S100352x1.Idx => (j 0).val / 2000 < 50)
    (fun β => β (0 : Fin _) < 50) (by decide +kernel) (fun t hf y => ?_) (fun j => Iff.rfl) _).trans ?_
  · have hp : (y (0 : Fin 2)).val < 2000 := ((cfg0.win 3).xinj (cfg0.grid.coords t) y (0 : Fin 2)).isLt
    refine Eq.trans (b := k0_pay1 (F := Ideal) (blkX V c t) (blkG V c t) (blkW V c t) (ix2 ⟨(y (0 : Fin 2)).val, hp⟩ 0)) ?_ ?_
    · refine congrArg (k0_pay1 (F := Ideal) (blkX V c t) (blkG V c t) (blkW V c t)) ?_
      funext (a : Fin 2)
      match a with
      | 0 => rfl
      | 1 => exact Subsingleton.elim (α := Fin 1) _ _
    · refine (k0_read _ _ _ _ 0 (X ⟨t.val * 2000 + (y (0 : Fin 2)).val, point_lt t ⟨_, hp⟩⟩) g w (fun k => ?_) (fun k => ?_) (fun k => ?_)).trans
        (rowsG_apply X g w _ _ ?_).symm
      · exact (blkX_apply V c t _ k).trans (hX _ k)
      · exact (blkG_apply V c t k).trans (hg k)
      · exact (blkW_apply V c t k).trans (hw k)
      · blk_simp [index0_3 t]
  · exact (if_pos (show i.val / 2000 < 50 by omega)).trans (rowsG_apply X g w _ i rfl)

/-! ## The epilogue -/

/-- The sums are staged whole. -/
theorem index2_0 : win2_0.index t2_0 = ![0, 0] := by decide +kernel
/-- The staged sums are the array of sums. -/
theorem stgS_eq (c : Dev nD) : stgS V c = V c main_v6_0 := by
  funext j
  show (V c main_v6_0 : Vec Ideal S32x512 .f32) (((cfg2.win 0).blk t2_0).view.emb j) = (V c main_v6_0 : Vec Ideal S32x512 .f32) j
  blk_ext [index2_0]
/-- The counts are staged whole. -/
theorem index2_1 : win2_1.index t2_0 = ![0, 0] := by decide +kernel
/-- The staged counts are the array of counts. -/
theorem stgC_eq (c : Dev nD) : stgC V c = V c main_v6_1 := by
  funext j
  show (V c main_v6_1 : Vec Ideal S32x512 .f32) (((cfg2.win 1).blk t2_0).view.emb j) = (V c main_v6_1 : Vec Ideal S32x512 .f32) j
  blk_ext [index2_1]
/-- The shifts are staged whole. -/
theorem index2_2 : win2_2.index t2_0 = ![0, 0] := by decide +kernel
/-- The staged shifts are the array of shifts. -/
theorem stgB_eq (c : Dev nD) : stgB V c = V c main_v1 := by
  funext j
  show (V c main_v1 : Vec Ideal S1x128 .f32) (((cfg2.win 2).blk t2_0).view.emb j) = (V c main_v1 : Vec Ideal S1x128 .f32) j
  blk_ext [index2_2]
/-- The weights are staged whole. -/
theorem index2_3 : win2_3.index t2_0 = ![0, 0] := by decide +kernel
/-- The staged weights are the array of weights. -/
theorem stgW_eq (c : Dev nD) : stgW V c = V c main_v2 := by
  funext j
  show (V c main_v2 : Vec Ideal S1x128 .f32) (((cfg2.win 3).blk t2_0).view.emb j) = (V c main_v2 : Vec Ideal S1x128 .f32) j
  blk_ext [index2_3]
/-- The bias row is staged whole. -/
theorem index2_4 : win2_4.index t2_0 = ![0, 0] := by decide +kernel
/-- The staged bias row is the array. -/
theorem stgb_eq (c : Dev nD) : stgb V c = V c main_v8 := by
  funext j
  show (V c main_v8 : Vec Ideal S1x512 .f32) (((cfg2.win 4).blk t2_0).view.emb j) = (V c main_v8 : Vec Ideal S1x512 .f32) j
  blk_ext [index2_4]

/-- The epilogue's array holds what its body computes of the whole operands. -/
theorem epilogue_array (n : ℕ) (c : Dev nD) :
    ((dat1 (F := Ideal) V n c).arrAt 5 cfg2.N : Vec Ideal S1x512 .f32)
      = k2_pay1 (F := Ideal) (V c main_v1) (V c main_v2) (V c main_v6_0) (V c main_v6_1) (V c main_v8) := by
  refine (dat1 (F := Ideal) V n c).arrAt_eq_of_after_last 5 t2_0 (by decide +kernel) _ fun j => ?_
  show k2_pay1 (F := Ideal) (stgB V c) (stgW V c) (stgS V c) (stgC V c) (stgb V c) j = _
  rw [stgB_eq, stgW_eq, stgS_eq, stgC_eq, stgb_eq]
  rfl

end Cert.Proof

end
-- ==== Proof.Epilogue.lean ====
/-
  The epilogue at one segment, and the equation between its value and the reference's, for real rows,
  scales and weights, and shifts that may be infinite.
-/
module

public import proofs.«01_k».proof.Proof.RowValue

@[expose] public section

noncomputable section

namespace Cert.Proof

open Cert.KernelIdeal Cert.KernelIdeal.Gen
open Idealize.ShloMosaic

/-- The epilogue's value at a segment: the mean of the row values, the shift's share where the segment is not empty, and the bias. -/
theorem k2_read (v0 v2 : Vec Ideal S1x128 .f32) (v9 v13 : Vec Ideal S32x512 .f32) (v26 : Vec Ideal S1x512 .f32) (q : Fin 512)
    (S C B b : EReal) (hS : ∑ n : Fin 32, (v9 (ix2 n q) : EReal) = S) (hC : ∑ n : Fin 32, (v13 (ix2 n q) : EReal) = C)
    (hB : ∑ k : Fin 128, (v0 (ix2 0 k) * v2 (ix2 0 k) : EReal) = B) (hb : v26 (ix2 0 q) = b) :
    k2_pay1 (F := Ideal) v0 v2 v9 v13 v26 (ix2 0 q) = (Ideal.div S (max C 1) + (if 0 < C then B else 0) + b : EReal) := by
  pointwise [k2_pay1]
  simp only [Finset.univ_unique, Finset.sum_singleton]
  rw [hS, hC, hB, hb]

/-- A multiple of ⊤, once and more. -/
theorem nsmul_top (n : ℕ) : (n + 1) • (⊤ : EReal) = ⊤ := by
  induction n with
  | zero => simp
  | succ n ih => rw [succ_nsmul, ih]; rfl

/-- A multiple of ⊥, once and more. -/
theorem nsmul_bot (n : ℕ) : (n + 1) • (⊥ : EReal) = ⊥ := by
  induction n with
  | zero => simp
  | succ n ih => rw [succ_nsmul, ih]; rfl

/-- A segment's mean in one column, weighted: its members' sum `a`, of each of which the shift `β` is a part, over their number.
The shift may be infinite. -/
theorem column_mean (a w : ℝ) (n : ℕ) (β : EReal) :
    Ideal.div ((a : EReal) + (n + 1) • β) (((n + 1 : ℕ) : ℝ) : EReal) * (w : EReal)
      = ((a * (1 / ((n + 1 : ℕ) : ℝ)) * w : ℝ) : EReal) + β * (w : EReal) := by
  have h0 : (0 : ℝ) < ((n + 1 : ℕ) : ℝ) := by exact_mod_cast Nat.succ_pos n
  have h1 : (0 : ℝ) < 1 / ((n + 1 : ℕ) : ℝ) := by positivity
  rw [Ideal.div_coe h0.ne']
  induction β with
  | bot =>
    rw [nsmul_bot, EReal.add_bot, EReal.bot_mul_coe_of_pos h1]
    rcases lt_trichotomy w 0 with h | h | h
    · rw [EReal.bot_mul_coe_of_neg h, EReal.coe_add_top]
    · simp [h]
    · rw [EReal.bot_mul_coe_of_pos h, EReal.add_bot]
  | top =>
    rw [nsmul_top, EReal.coe_add_top, EReal.top_mul_coe_of_pos h1]
    rcases lt_trichotomy w 0 with h | h | h
    · rw [EReal.top_mul_coe_of_neg h, EReal.add_bot]
    · simp [h]
    · rw [EReal.top_mul_coe_of_pos h, EReal.coe_add_top]
  | coe β =>
    rw [← EReal.coe_nsmul, ← EReal.coe_add, ← EReal.coe_mul, ← EReal.coe_mul, ← EReal.coe_mul, ← EReal.coe_add]
    refine congrArg _ ?_
    rw [nsmul_eq_mul]
    field_simp

section Segment
variable {N : Type} [Fintype N] (P : N → Prop) [DecidablePred P] (y : N → Fin 128 → ℝ) (w : Fin 128 → ℝ) (β : Fin 128 → EReal)

/-- The number of a segment's members. -/
def card : ℕ := (Finset.univ.filter P).card

/-- The segment's count over the extended reals. -/
theorem card_coe : (∑ i : N, if P i then 1 else 0 : EReal) = ((card P : ℝ) : EReal) := by
  have e : (card P : ℝ) = ∑ i : N, if P i then (1 : ℝ) else 0 := by unfold card; simp
  rw [e, coe_sum]
  exact Finset.sum_congr rfl fun i _ => by split <;> simp

/-- A real number or zero, as an extended real. -/
theorem coe_ite_zero (p : Prop) [Decidable p] (r : ℝ) : (if p then (r : EReal) else 0) = ((if p then r else 0 : ℝ) : EReal) := by
  split <;> simp

/-- The members' sum in one column: what the rows hold, and the shift once for each member. -/
theorem column_sum (k : Fin 128) :
    (∑ i, if P i then (y i k : EReal) + β k else 0) = ((∑ i, if P i then y i k else 0 : ℝ) : EReal) + card P • β k := by
  have e : ∀ i, (if P i then (y i k : EReal) + β k else 0) = ((if P i then y i k else 0 : ℝ) : EReal) + if P i then β k else 0 :=
    fun i => by split <;> simp
  rw [Finset.sum_congr rfl fun i _ => e i, Finset.sum_add_distrib, coe_sum, ← Finset.sum_filter (s := Finset.univ) (p := P) (f := fun _ => β k), Finset.sum_const]
  rfl

/-- The members' weighted values, summed column by column. -/
theorem rows_sum (c : ℝ) :
    (∑ i, if P i then ∑ k, y i k * w k else 0) * c = ∑ k, (∑ i, if P i then y i k else 0) * c * w k := by
  have b : (∑ i, if P i then ∑ k, y i k * w k else 0) = ∑ k, (∑ i, if P i then y i k else 0) * w k := by
    simp only [Finset.sum_mul]
    rw [Finset.sum_comm]
    refine Finset.sum_congr rfl fun i _ => ?_
    split <;> simp
  rw [b, Finset.sum_mul]
  exact Finset.sum_congr rfl fun k _ => by ring

/-- The equation at one segment, over the extended reals. -/
theorem segment_eq (b : EReal) :
    Ideal.div (∑ i, if P i then ((∑ k, y i k * w k : ℝ) : EReal) else 0) (max (∑ i : N, if P i then 1 else 0) 1)
        + (if 0 < (∑ i : N, if P i then 1 else 0 : EReal) then ∑ k, β k * (w k : EReal) else 0) + b
      = (∑ k, Ideal.div (∑ i, if P i then (y i k : EReal) + β k else 0) (max (∑ i : N, if P i then 1 else 0) 1) * (w k : EReal)) + b := by
  refine congrArg (fun a : EReal => a + b) ?_
  simp only [card_coe, coe_ite_zero, ← coe_sum, column_sum]
  rcases Nat.eq_zero_or_pos (card P) with h | h
  · have hP : ∀ i, ¬ P i := fun i hi => by
      have := Finset.card_eq_zero.1 h
      exact absurd (this ▸ Finset.mem_filter.2 ⟨Finset.mem_univ i, hi⟩ : i ∈ (∅ : Finset N)) (Finset.notMem_empty i)
    have d : Ideal.div 0 1 = 0 := by
      have := Ideal.div_coe (x := 0) (one_ne_zero (α := ℝ))
      simpa using this
    simp [h, hP, d]
  · obtain ⟨n, e⟩ : ∃ n, card P = n + 1 := ⟨card P - 1, by omega⟩
    rw [e]
    have h1 : (1 : ℝ) ≤ ((n + 1 : ℕ) : ℝ) := by exact_mod_cast Nat.succ_le_succ (Nat.zero_le n)
    have h0 : (0 : ℝ) < ((n + 1 : ℕ) : ℝ) := lt_of_lt_of_le one_pos h1
    have hm : max (((n + 1 : ℕ) : ℝ) : EReal) 1 = (((n + 1 : ℕ) : ℝ) : EReal) := max_eq_left (by exact_mod_cast h1)
    rw [hm, if_pos (EReal.coe_pos.2 h0), Finset.sum_congr rfl fun k _ => column_mean _ (w k) n (β k), Finset.sum_add_distrib, ← coe_sum,
      Ideal.div_coe h0.ne', ← EReal.coe_mul, rows_sum]

end Segment

end Cert.Proof

end
-- ==== Proof.RefValue.lean ====
/-
  The reference's value, element by element, for real rows and scales: its normalised rows, its sums and
  counts per segment, and the result.
-/
module

public import proofs.«01_k».proof.Proof.Gen.ReferenceIdeal.Run
public import proofs.«01_k».proof.Proof.RowValue
public import Idealize.ShloMosaic.Lib.Pointwise
public import Idealize.ShloMosaic.Lib.Routing.OpsPair

@[expose] public section

noncomputable section

namespace Cert.Proof.Ref

open Cert.ReferenceIdeal
open Cert.ReferenceIdeal.Facts₀
open Idealize.ShloMosaic

attribute [local instance] Cert.ReferenceIdeal.Gen.facts

/-! ## The reference's term, in parts -/

/-- The rows' means. -/
def meanV (x : FVec Ideal S100000x128 .f32) : FVec Ideal S100000x1 .f32 :=
  Host.divf (broadcastInDim S100000x1 ![0] bcast_S100000_S100000x1_0 (Host.reduceAdd x (constant S_ .f32 0x00000000#32) reducesTo_S100000x128_S100000_d1 h_S_))
    (broadcastInDim S100000x1 ![] bcast_S_S100000x1 (constant S_ .f32 0x43000000#32))

/-- The rows less their means. -/
def devV (x : FVec Ideal S100000x128 .f32) : FVec Ideal S100000x128 .f32 :=
  subf x (broadcastInDim S100000x128 ![0, 1] bcast_S100000x1_S100000x128_0_1 (meanV x))

/-- The rows' variances. -/
def varV (x : FVec Ideal S100000x128 .f32) : FVec Ideal S100000x1 .f32 :=
  Host.divf (broadcastInDim S100000x1 ![0] bcast_S100000_S100000x1_0 (Host.reduceAdd (mulf (devV x) (devV x)) (constant S_ .f32 0x00000000#32) reducesTo_S100000x128_S100000_d1 h_S_))
    (broadcastInDim S100000x1 ![] bcast_S_S100000x1 (constant S_ .f32 0x43000000#32))

/-- The rows, normalised, scaled and shifted. -/
def rowsV (x : FVec Ideal S100000x128 .f32) (g b : FVec Ideal S128 .f32) : FVec Ideal S100000x128 .f32 :=
  addf (mulf (Host.divf (devV x) (broadcastInDim S100000x128 ![0, 1] bcast_S100000x1_S100000x128_0_1
      (Host.sqrt (addf (varV x) (broadcastInDim S100000x1 ![] bcast_S_S100000x1 (constant S_ .f32 0x3727C5AC#32))))))
    (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 b))

/-- The sums per segment. -/
def sumsV (r : FVec Ideal S100000x128 .f32) (idx : IVec S100000 32) : FVec Ideal S512x128 .f32 :=
  Host.scatterAdd scatter_S512x128_S100000x1_S100000x128_1_0_0_1 (broadcastInDim S512x128 ![] bcast_S_S512x128 (constant S_ .f32 0x00000000#32))
    (broadcastInDim S100000x1 ![0] bcast_S100000_S100000x1_0 idx) r

/-- The counts per segment. -/
def cntsV (idx : IVec S100000 32) : FVec Ideal S512 .f32 :=
  Host.scatterAdd scatter_S512_S100000x1_S100000_n_0_0_1 (broadcastInDim S512 ![] bcast_S_S512 (constant S_ .f32 0x00000000#32))
    (broadcastInDim S100000x1 ![0] bcast_S100000_S100000x1_0 idx) (broadcastInDim S100000 ![] bcast_S_S100000 (constant S_ .f32 0x3F800000#32))

/-- The result: the means per segment, weighted, and the bias. -/
def outV (s : FVec Ideal S512x128 .f32) (n : FVec Ideal S512 .f32) (w : FVec Ideal S128x1 .f32) (b : FVec Ideal S1 .f32) : FVec Ideal S512x1 .f32 :=
  addf (Host.dotGeneral dot_S512x128_S128x1_S512x1_1_0_0_1_n_n none (Host.divf s (broadcastInDim S512x128 ![0, 1] bcast_S512x1_S512x128_0_1
      (broadcastInDim S512x1 ![0] bcast_S512_S512x1_0 (maximumf n (broadcastInDim S512 ![] bcast_S_S512 (constant S_ .f32 0x3F800000#32)))))) w)
    (broadcastInDim S512x1 ![0, 1] bcast_S1x1_S512x1_0_1 (broadcastInDim S1x1 ![1] bcast_S1_S1x1_1 b))

/-! ## The rows -/

/-- A quotient by 128. -/
theorem div_128 (r : EReal) : Ideal.div r (Ideal.ofBits .f32 0x43000000#32) = r * ((1 / 128 : ℝ) : EReal) := by
  rw [bits_128, Ideal.div_coe (by norm_num)]

section Row
variable (x : FVec Ideal S100000x128 .f32) (i : Fin 100000) (X : Fin 128 → ℝ) (hX : ∀ k, x (ix2 i k) = (X k : EReal))
include hX

/-- A row's mean. -/
theorem meanV_apply : meanV x (ix2 i 0) = (mean X : EReal) := by
  pointwise [meanV]
  rw [div_128]
  simp only [hX, ← coe_sum, ← EReal.coe_mul]
  rfl

/-- An entry less its row's mean. -/
theorem devV_apply (k : Fin 128) : devV x (ix2 i k) = ((X k - mean X : ℝ) : EReal) := by
  pointwise [devV]
  rw [meanV_apply x i X hX, hX, ← EReal.coe_sub]

/-- A row's variance. -/
theorem varV_apply : varV x (ix2 i 0) = (var X : EReal) := by
  pointwise [varV]
  rw [div_128]
  simp only [devV_apply x i X hX, ← coe_sum, ← EReal.coe_mul]
  rfl

/-- A row, normalised, scaled and shifted. -/
theorem rowsV_apply (g b : FVec Ideal S128 .f32) (k : Fin 128) (gk : ℝ) (hg : g (ix1 k) = (gk : EReal)) :
    rowsV x g b (ix2 i k) = (((norm X k * gk : ℝ) : EReal) + b (ix1 k) : EReal) := by
  pointwise [rowsV]
  rw [varV_apply x i X hX, devV_apply x i X hX, bits_eps, hg, ← EReal.coe_add, Ideal.sqrt_coe, if_neg (not_lt.2 (var_eps_pos X).le),
    Ideal.div_coe (Real.sqrt_pos.2 (var_eps_pos X)).ne', ← EReal.coe_mul, ← EReal.coe_mul]
  rfl

end Row

/-! ## The result from the sums and the counts -/

/-- The result at a segment, from its sums and its count. -/
theorem outV_apply (s : FVec Ideal S512x128 .f32) (n : FVec Ideal S512 .f32) (w : FVec Ideal S128x1 .f32) (b : FVec Ideal S1 .f32) (q : Fin 512) :
    outV s n w b (ix2 q 0) = ((∑ k : Fin 128, Ideal.div (s (ix2 q k)) (max (n (ix1 q)) 1) * w (ix2 k 0)) + b (ix1 0) : EReal) := by
  pointwise [outV]

/-! ## The scatters -/

/-- An entry of a row is added to a segment's sum when the row's word names the segment and the columns agree. -/
theorem lands2 (idx : IVec S100000x1 32) (i : Fin 100000) (k : Fin 128) (q : Fin 512) (l : Fin 128) :
    scatter_S512x128_S100000x1_S100000x128_1_0_0_1.resultIdx? (ix2 i k) idx = some (ix2 q l) ↔ (idx (ix2 i 0)).toInt = (q.val : Int) ∧ k = l := by
  rw [Routing.resultIdx?_eq_some]
  have w0 : scatter_S512x128_S100000x1_S100000x128_1_0_0_1.window (ix2 i k) 0 = 0 := rfl
  have w1 : scatter_S512x128_S100000x1_S100000x128_1_0_0_1.window (ix2 i k) 1 = k.val := rfl
  have s1 : scatter_S512x128_S100000x1_S100000x128_1_0_0_1.start (ix2 i k) idx 1 = 0 := rfl
  have s0 : scatter_S512x128_S100000x1_S100000x128_1_0_0_1.start (ix2 i k) idx 0 = (idx (ix2 i 0)).toInt := by
    show (idx _).toInt = _
    refine congrArg (fun z => (idx z).toInt) ?_
    funext (a : Fin 2)
    match a with
    | 0 => rfl
    | 1 => rfl
  constructor
  · intro h
    have h0 := h 0
    have h1 := h 1
    rw [s0, w0] at h0
    rw [s1, w1] at h1
    refine ⟨?_, ?_⟩
    · simpa using h0
    · apply Fin.ext
      have : ((k.val : ℕ) : Int) = (l.val : ℕ) := by simpa using h1
      omega
  · rintro ⟨h, rfl⟩ (a : Fin 2)
    match a with
    | 0 =>
      show scatter_S512x128_S100000x1_S100000x128_1_0_0_1.start (ix2 i k) idx 0 + (scatter_S512x128_S100000x1_S100000x128_1_0_0_1.window (ix2 i k) 0 : Int) = (q.val : Int)
      rw [s0, w0, h]; simp
    | 1 =>
      show scatter_S512x128_S100000x1_S100000x128_1_0_0_1.start (ix2 i k) idx 1 + (scatter_S512x128_S100000x1_S100000x128_1_0_0_1.window (ix2 i k) 1 : Int) = (k.val : Int)
      rw [s1, w1]; simp

/-- A one is added to a segment's count when the row's word names the segment. -/
theorem lands1 (idx : IVec S100000x1 32) (i : Fin 100000) (q : Fin 512) :
    scatter_S512_S100000x1_S100000_n_0_0_1.resultIdx? (ix1 i) idx = some (ix1 q) ↔ (idx (ix2 i 0)).toInt = (q.val : Int) := by
  rw [Routing.resultIdx?_eq_some]
  have w0 : scatter_S512_S100000x1_S100000_n_0_0_1.window (ix1 i) 0 = 0 := rfl
  have s0 : scatter_S512_S100000x1_S100000_n_0_0_1.start (ix1 i) idx 0 = (idx (ix2 i 0)).toInt := by
    show (idx _).toInt = _
    refine congrArg (fun z => (idx z).toInt) ?_
    funext (a : Fin 2)
    match a with
    | 0 => rfl
    | 1 => rfl
  constructor
  · intro h
    have h0 := h 0
    rw [s0, w0] at h0
    simpa using h0
  · intro h (a : Fin 1)
    obtain rfl : a = 0 := Subsingleton.elim _ _
    show scatter_S512_S100000x1_S100000_n_0_0_1.start (ix1 i) idx 0 + (scatter_S512_S100000x1_S100000_n_0_0_1.window (ix1 i) 0 : Int) = (q.val : Int)
    rw [s0, w0, h]; simp

/-- A word below 512 read signed is the word read unsigned. -/
theorem toInt_eq (w : BitVec 32) (h : w.toNat < 512) (q : ℕ) : w.toInt = (q : Int) ↔ w.toNat = q := by
  rw [BitVec.toInt_eq_toNat_of_lt (by omega)]
  exact Int.ofNat_inj

/-- A segment's sums. -/
theorem sumsV_apply (r : FVec Ideal S100000x128 .f32) (idx : IVec S100000 32) (hidx : ∀ i, (idx i).toNat < 512) (q : Fin 512) (l : Fin 128) :
    sumsV r idx (ix2 q l) = (∑ i : Fin 100000, if (idx (ix1 i)).toNat = q.val then r (ix2 i l) else 0 : EReal) := by
  show (broadcastInDim S512x128 ![] bcast_S_S512x128 (constant (F := Ideal) S_ .f32 0x00000000#32) (ix2 q l)
    + ∑ j ∈ Finset.univ.filter (fun j => scatter_S512x128_S100000x1_S100000x128_1_0_0_1.resultIdx? j
        (broadcastInDim S100000x1 ![0] bcast_S100000_S100000x1_0 idx) = some (ix2 q l)), r j : EReal) = _
  rw [Finset.sum_filter, sum_idx2]
  have z : (broadcastInDim S512x128 ![] bcast_S_S512x128 (constant (F := Ideal) S_ .f32 0x00000000#32) (ix2 q l) : EReal) = 0 := by
    pointwise
  rw [z, zero_add]
  refine Finset.sum_congr rfl fun i _ => ?_
  have e : broadcastInDim S100000x1 ![0] bcast_S100000_S100000x1_0 idx (ix2 i 0) = idx (ix1 i) := by pointwise
  simp only [lands2, e, toInt_eq _ (hidx _)]
  by_cases h : (idx (ix1 i)).toNat = q.val
  · simp [h]
  · simp [h]

/-- A segment's count. -/
theorem cntsV_apply (idx : IVec S100000 32) (hidx : ∀ i, (idx i).toNat < 512) (q : Fin 512) :
    cntsV idx (ix1 q) = (∑ i : Fin 100000, if (idx (ix1 i)).toNat = q.val then 1 else 0 : EReal) := by
  show (broadcastInDim S512 ![] bcast_S_S512 (constant (F := Ideal) S_ .f32 0x00000000#32) (ix1 q)
    + ∑ j ∈ Finset.univ.filter (fun j => scatter_S512_S100000x1_S100000_n_0_0_1.resultIdx? j
        (broadcastInDim S100000x1 ![0] bcast_S100000_S100000x1_0 idx) = some (ix1 q)),
      (broadcastInDim S100000 ![] bcast_S_S100000 (constant (F := Ideal) S_ .f32 0x3F800000#32)) j : EReal) = _
  rw [Finset.sum_filter, sum_idx1]
  have z : (broadcastInDim S512 ![] bcast_S_S512 (constant (F := Ideal) S_ .f32 0x00000000#32) (ix1 q) : EReal) = 0 := by
    pointwise
  rw [z, zero_add]
  refine Finset.sum_congr rfl fun i _ => ?_
  have e : broadcastInDim S100000x1 ![0] bcast_S100000_S100000x1_0 idx (ix2 i 0) = idx (ix1 i) := by pointwise
  have o : (broadcastInDim S100000 ![] bcast_S_S100000 (constant (F := Ideal) S_ .f32 0x3F800000#32) (ix1 i) : EReal) = 1 := by pointwise
  simp only [lands1, e, o, toInt_eq _ (hidx _)]

end Cert.Proof.Ref

end
-- ==== Proof.Equal.lean ====
/-
  The kernel's result and the reference's are equal at every segment, and so the two programs leave the same results.
-/
module

public import proofs.«01_k».proof.Proof.Frames
public import proofs.«01_k».proof.Proof.Bins
public import proofs.«01_k».proof.Proof.Arrays
public import proofs.«01_k».proof.Proof.Epilogue
public import proofs.«01_k».proof.Proof.RefValue

@[expose] public section

noncomputable section

namespace Cert.Proof

open Cert.KernelIdeal Cert.KernelIdeal.Gen
open Idealize.ShloMosaic Idealize.SL.Sem
open Idealize.ShloMosaic.TcCoe

attribute [local instance] Cert.Pre_finite.Gen.facts Cert.KernelIdeal.Gen.facts Cert.ReferenceIdeal.Gen.facts

/-! ## Layouts at an index -/

/-- A vector of words padded at its end, before the padding. -/
theorem pad_inside (idx : IVec S100000 32) (i : Fin 100000) :
    pad S100352 ![0] ![352] ![0] idx (constantI S_ 32 512#32) pads_S100000_S100352_03520 h_S_ (ix1 ⟨i.val, by omega⟩) = idx (ix1 i) := by
  pointwise

/-- A vector of words padded with 512 at its end, in the padding. -/
theorem pad_outside (idx : IVec S100000 32) (n : ℕ) (h : n < 100352) (hn : 100000 ≤ n) :
    pad S100352 ![0] ![352] ![0] idx (constantI S_ 32 512#32) pads_S100000_S100352_03520 h_S_ (ix1 ⟨n, h⟩) = 512#32 := by
  pointwise
  exact dif_neg (by omega)

/-- A row as a column. -/
theorem column_apply (f : Vec Ideal S1x512 .f32) (q : Fin 512) : shapeCast S512x1 f shapeCasts_S1x512_S512x1 (ix2 q 0) = f (ix2 0 q) := by
  pointwise

/-- The bias, along the row. -/
theorem bias_apply (v : Vec Ideal S1 .f32) (q : Fin 512) :
    broadcastInDim S1x512 ![0, 1] bcast_S1x1_S1x512_0_1 (shapeCast S1x1 v shapeCasts_S1_S1x1) (ix2 0 q) = v (ix1 0) := by
  pointwise

section Value
variable (m : (ℓ : Loc nD τ sig) → Buf (Elt Ideal) ℓ) (hI : Segs m) (d : Dev nD)
variable (X : Fin 100000 → Fin 128 → ℝ) (g w : Fin 128 → ℝ) (β : Fin 128 → EReal)

/-- The segment words as launched. -/
abbrev segW : IVec S100000 32 := m (d, dr main_arg1)

/-- The rows, the scales and the weights are real, and every segment word is below 512. -/
structure Args : Prop where
  idx : ∀ i, (segW m d i).toNat < 512
  x : ∀ i k, (m (d, dr main_arg0) : Vec Ideal S100000x128 .f32) (ix2 i k) = (X i k : EReal)
  g : ∀ k, (m (d, dr main_arg3) : Vec Ideal S128 .f32) (ix1 k) = (g k : EReal)
  β : ∀ k, (m (d, dr main_arg4) : Vec Ideal S128 .f32) (ix1 k) = β k
  w : ∀ k, (m (d, dr main_arg5) : Vec Ideal S128x1 .f32) (ix2 k 0) = (w k : EReal)

variable {m d X g w β}

/-- The padded words: a launched word below 100000, and 512 from there on. -/
theorem words_apply (i : Fin 100000) :
    (W3 m d (dr main_v4) : IVec S100352 32) (ix1 ⟨i.val, by omega⟩) = segW m d (ix1 i) := by
  rw [W3_v4]
  exact pad_inside (segW m d) i

/-- The padded words in the padding. -/
theorem words_pad (n : ℕ) (h : n < 100352) (hn : 100000 ≤ n) :
    (W3 m d (dr main_v4) : IVec S100352 32) (ix1 ⟨n, h⟩) = 512#32 := by
  rw [W3_v4]
  exact pad_outside (segW m d) n h hn

/-- The row values, where the rows are. -/
theorem vals_apply (h : Args m d X g w β) (i : Fin 100000) :
    (W3 m d (dr main_v5) : Vec Ideal S100352 .f32) (ix1 ⟨i.val, by omega⟩) = (rowVal (X i) g w : EReal) := by
  rw [W3_v5]
  have e := rows_apply (fam (W1 m)) 0 d X g w
    (fun i k => (congrFun (W1_x m d) (ix2 i k)).trans (h.x i k))
    (fun k => (congrFun (W1_g m d) (ix2 0 k)).trans (Eq.trans (by pointwise) (h.g k)))
    (fun k => (congrFun (W1_w m d) (ix2 0 k)).trans (Eq.trans (by pointwise) (h.w k))) i
  refine Eq.trans ?_ e
  pointwise

/-- A segment's sum over the tiles is the sum of its rows' values. -/
theorem col_sums (h : Args m d X g w β) (q : Fin 512) :
    (∑ n : Fin 32, (W5 m hI d (dr main_v6_0) : Vec Ideal S32x512 .f32) (ix2 n q) : EReal)
      = ∑ i : Fin 100000, if (segW m d (ix1 i)).toNat = q.val then (rowVal (X i) g w : EReal) else 0 := by
  rw [W5_s]
  rw [sumsOf_col, sum_term _ _ _ fun n hn hl => by rw [words_pad n hn hl]; have := q.isLt; show 512 ≠ q.val; omega]
  exact Finset.sum_congr rfl fun i _ => by rw [words_apply, vals_apply h]

/-- A segment's count over the tiles is the number of its rows. -/
theorem col_cnts (h : Args m d X g w β) (q : Fin 512) :
    (∑ n : Fin 32, (W5 m hI d (dr main_v6_1) : Vec Ideal S32x512 .f32) (ix2 n q) : EReal)
      = ∑ i : Fin 100000, if (segW m d (ix1 i)).toNat = q.val then 1 else 0 := by
  rw [W5_c]
  rw [cntsOf_col, sum_term _ _ _ fun n hn hl => by rw [words_pad n hn hl]; have := q.isLt; show 512 ≠ q.val; omega]
  exact Finset.sum_congr rfl fun i _ => by rw [words_apply]; rfl

/-- The kernel's result at a segment. -/
theorem kernel_value (h : Args m d X g w β) (q : Fin 512) :
    shapeCast S512x1 ((dat1 (F := Ideal) (fam (W5 m hI)) 1 d).arrAt 5 cfg2.N : Vec Ideal S1x512 .f32) shapeCasts_S1x512_S512x1 (ix2 q 0)
      = (Ideal.div (∑ i : Fin 100000, if (segW m d (ix1 i)).toNat = q.val then ((∑ k, norm (X i) k * g k * w k : ℝ) : EReal) else 0)
          (max (∑ i : Fin 100000, if (segW m d (ix1 i)).toNat = q.val then 1 else 0) 1)
        + (if 0 < (∑ i : Fin 100000, if (segW m d (ix1 i)).toNat = q.val then 1 else 0 : EReal) then ∑ k, β k * (w k : EReal) else 0)
        + (m (d, dr main_arg6) : Vec Ideal S1 .f32) (ix1 0) : EReal) := by
  rw [column_apply, epilogue_array]
  refine k2_read _ _ _ _ _ q _ _ _ _ (col_sums hI h q) (col_cnts hI h q) ?_ ?_
  · refine Finset.sum_congr rfl fun k _ => ?_
    have eb : (W5 m hI d (dr main_v1) : Vec Ideal S1x128 .f32) (ix2 0 k) = β k :=
      (congrFun (W5_b1 m hI d) (ix2 0 k)).trans (Eq.trans (by pointwise) (h.β k))
    have ew : (W5 m hI d (dr main_v2) : Vec Ideal S1x128 .f32) (ix2 0 k) = (w k : EReal) :=
      (congrFun (W5_w m hI d) (ix2 0 k)).trans (Eq.trans (by pointwise) (h.w k))
    exact congrArg₂ (fun a b : EReal => a * b) eb ew
  · exact (congrFun (W5_b m hI d) (ix2 0 q)).trans (bias_apply (m (d, dr main_arg6)) q)

/-- The reference's result at a segment. -/
theorem reference_value (h : Args m d X g w β) (q : Fin 512) :
    Ref.outV (Ref.sumsV (Ref.rowsV (m (d, dr main_arg0)) (m (d, dr main_arg3)) (m (d, dr main_arg4))) (segW m d)) (Ref.cntsV (segW m d))
        (m (d, dr main_arg5)) (m (d, dr main_arg6)) (ix2 q 0)
      = ((∑ k, Ideal.div (∑ i : Fin 100000, if (segW m d (ix1 i)).toNat = q.val then ((norm (X i) k * g k : ℝ) : EReal) + β k else 0)
          (max (∑ i : Fin 100000, if (segW m d (ix1 i)).toNat = q.val then 1 else 0) 1) * (w k : EReal))
        + (m (d, dr main_arg6) : Vec Ideal S1 .f32) (ix1 0) : EReal) := by
  rw [Ref.outV_apply, Ref.cntsV_apply _ h.idx]
  refine congrArg₂ (fun a b : EReal => a + b) (Finset.sum_congr rfl fun k _ => ?_) rfl
  rw [Ref.sumsV_apply _ _ h.idx]
  refine congrArg₂ (fun a b : EReal => a * b) (congrArg₂ Ideal.div (Finset.sum_congr rfl fun i _ => ?_) rfl) (h.w k)
  rw [Ref.rowsV_apply _ i (X i) (h.x i) _ _ k (g k) (h.g k), h.β k]

/-- The two results are equal. -/
theorem value_eq (h : Args m d X g w β) :
    shapeCast S512x1 ((dat1 (F := Ideal) (fam (W5 m hI)) 1 d).arrAt 5 cfg2.N : Vec Ideal S1x512 .f32) shapeCasts_S1x512_S512x1
      = Ref.outV (Ref.sumsV (Ref.rowsV (m (d, dr main_arg0)) (m (d, dr main_arg3)) (m (d, dr main_arg4))) (segW m d)) (Ref.cntsV (segW m d))
        (m (d, dr main_arg5)) (m (d, dr main_arg6)) := by
  funext j
  obtain ⟨q, rfl⟩ : ∃ q : Fin 512, j = ix2 q 0 := ⟨j 0, by
    rw [eq_ix2 j]
    exact congrArg (ix2 (j 0)) (Subsingleton.elim (α := Fin 1) _ _)⟩
  rw [kernel_value hI h q, reference_value h q]
  exact segment_eq (fun i : Fin 100000 => (segW m d (ix1 i)).toNat = q.val) (fun i k => norm (X i) k * g k) w β _

end Value

/-- Under `finite` the rows, the scales and the weights are real, and every segment word is below 512. -/
theorem args_of_finite {m : (ℓ : Loc nD τ sig) → Buf (Elt Ideal) ℓ} (h : Cert.Pre_KernelIdeal_finite m) (d : Dev nD) :
    ∃ X g w β, Args m d X g w β := by
  obtain ⟨hx, hg, hw, hi⟩ := finite_split (h d)
  choose X eX using fun i => real_of_olt (hx i)
  choose G eG using fun i => real_of_olt (hg i)
  choose W eW using fun i => real_of_olt (hw i)
  exact ⟨fun i k => X (ix2 i k), fun k => G (ix1 k), fun k => W (ix2 k 0), fun k => (m (d, dr main_arg4) : Vec Ideal S128 .f32) (ix1 k),
    hi, fun i k => eX _, fun k => eG _, fun k => rfl, fun k => eW _⟩

/-- The kernel and the reference leave the same results from the same arguments. -/
theorem same_results : Cert.algebraic_KernelIdeal_ReferenceIdeal_pre_finite := by
  intro m g m' g' h hm
  refine ⟨fun c => shapeCast S512x1 ((dat1 (F := Ideal) (fam (W5 m (segs_finite h))) 1 c).arrAt 5 cfg2.N : Vec Ideal S1x512 .f32) shapeCasts_S1x512_S512x1,
    fun c => m ((c.tc : Thread nD τ).loc main_arg2), ?_, ?_⟩
  · refine (θ_run Cert.KernelIdeal.defs Cert.KernelIdeal.threads _).mono (fun r hr c => ?_) (run_ends m (segs_finite h) g)
    exact ⟨(hr.1 c).1, (hr.1 c).2.2.2.1, (hr.1 c).2⟩
  · refine (θ_run Cert.ReferenceIdeal.defs _ _).mono (fun r hr c => ?_) (Cert.ReferenceIdeal.Value.run (F := Ideal) m' g')
    refine ⟨(hr c).1.trans ?_, (hr c).2.1.trans (hm c).2.2.1, (hr c).2.2⟩
    obtain ⟨h0, h1, h2, h3, h4, h5, h6⟩ := hm c
    rw [h0, h1, h3, h4, h5, h6]
    obtain ⟨X, γ, w, β, hA⟩ := args_of_finite h c
    exact (value_eq (segs_finite h) hA).symm

end Cert.Proof

end
-- ==== Proof.lean ====
/-
  The certificate: the five claims about the kernel and its reference, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_segments
public import proofs.«01_k».proof.Proof.Gen.Pre_finite
public import proofs.«01_k».proof.Proof.Gen.ReferenceIdeal.Run
public import proofs.«01_k».proof.Proof.Frames
public import proofs.«01_k».proof.Proof.FrameBits
public import proofs.«01_k».proof.Proof.Equal

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Pre_segments.Gen.facts, Cert.Pre_finite.Gen.facts,
    frame_kernel, frame_kernelIdeal, frame_kernelIdeal_finite, frame_reference, frame_reference_finite, named_sqrt, same_results⟩

end Cert.Proof

end
